-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x40x1024 : Shape := ⟨3, ![24, 40, 1024]⟩
abbrev S5x24x2x1024 : Shape := ⟨4, ![5, 24, 2, 1024]⟩
abbrev S5x24x2x8 : Shape := ⟨4, ![5, 24, 2, 8]⟩
abbrev S5x3x1024x1024 : Shape := ⟨4, ![5, 3, 1024, 1024]⟩
abbrev S5x1024 : Shape := ⟨2, ![5, 1024]⟩
abbrev S5x24x40x1024 : Shape := ⟨4, ![5, 24, 40, 1024]⟩
abbrev S5x24x40x8 : Shape := ⟨4, ![5, 24, 40, 8]⟩
abbrev S1x24x2x1024 : Shape := ⟨4, ![1, 24, 2, 1024]⟩
abbrev S1x24x2x8 : Shape := ⟨4, ![1, 24, 2, 8]⟩
abbrev S1x3x1024x1024 : Shape := ⟨4, ![1, 3, 1024, 1024]⟩
abbrev S1x24x40x1024 : Shape := ⟨4, ![1, 24, 40, 1024]⟩
abbrev S1x24x40x8 : Shape := ⟨4, ![1, 24, 40, 8]⟩
abbrev S24x40x3072 : Shape := ⟨3, ![24, 40, 3072]⟩
abbrev S1x40x128 : Shape := ⟨3, ![1, 40, 128]⟩
abbrev S40x128 : Shape := ⟨2, ![40, 128]⟩
abbrev S40 : Shape := ⟨1, ![40]⟩
abbrev S40x1 : Shape := ⟨2, ![40, 1]⟩
abbrev S1x1x40x128 : Shape := ⟨4, ![1, 1, 40, 128]⟩
abbrev S1x1x40x1 : Shape := ⟨4, ![1, 1, 40, 1]⟩
abbrev S1x1x2x128 : Shape := ⟨4, ![1, 1, 2, 128]⟩
abbrev S2x128 : Shape := ⟨2, ![2, 128]⟩
abbrev S2x1 : Shape := ⟨2, ![2, 1]⟩
abbrev S1x1x2x1 : Shape := ⟨4, ![1, 1, 2, 1]⟩
abbrev S42x128 : Shape := ⟨2, ![42, 128]⟩
abbrev S1x1024 : Shape := ⟨2, ![1, 1024]⟩
abbrev S2x40x3072 : Shape := ⟨3, ![2, 40, 3072]⟩
abbrev S80x3072 : Shape := ⟨2, ![80, 3072]⟩
abbrev S3x1024x1024 : Shape := ⟨3, ![3, 1024, 1024]⟩
abbrev S3072x1024 : Shape := ⟨2, ![3072, 1024]⟩
abbrev S80x1024 : Shape := ⟨2, ![80, 1024]⟩
abbrev S2x40x1024 : Shape := ⟨3, ![2, 40, 1024]⟩

abbrev nBuf : Space → Nat
  | .hbm => 11
  | .vmem => 20
  | .smem => 0
  | _ => 0

abbrev bufTy : (tb : Table) → Fin (tcTables nBuf tb) → BufTy
  | .hbm, ⟨0, _⟩ => ⟨S24x40x1024, .bf16⟩
  | .hbm, ⟨1, _⟩ => ⟨S5x24x2x1024, .fp8e4m3⟩
  | .hbm, ⟨2, _⟩ => ⟨S5x24x2x8, .f32⟩
  | .hbm, ⟨3, _⟩ => ⟨S5x3x1024x1024, .fp8e4m3⟩
  | .hbm, ⟨4, _⟩ => ⟨S5x1024, .f32⟩
  | .hbm, ⟨5, _⟩ => ⟨S5x1024, .f32⟩
  | .hbm, ⟨6, _⟩ => ⟨S24x40x1024, .bf16⟩
  | .hbm, ⟨7, _⟩ => ⟨S5x24x40x1024, .fp8e4m3⟩
  | .hbm, ⟨8, _⟩ => ⟨S5x24x40x8, .f32⟩
  | .hbm, ⟨9, _⟩ => ⟨S5x24x2x1024, .fp8e4m3⟩
  | .hbm, ⟨10, _⟩ => ⟨S5x24x2x8, .f32⟩
  | .local _ .vmem, ⟨0, _⟩ => ⟨S24x40x1024, .bf16⟩
  | .local _ .vmem, ⟨1, _⟩ => ⟨S1x24x2x1024, .fp8e4m3⟩
  | .local _ .vmem, ⟨2, _⟩ => ⟨S1x24x2x1024, .fp8e4m3⟩
  | .local _ .vmem, ⟨3, _⟩ => ⟨S1x24x2x8, .f32⟩
  | .local _ .vmem, ⟨4, _⟩ => ⟨S1x24x2x8, .f32⟩
  | .local _ .vmem, ⟨5, _⟩ => ⟨S1x3x1024x1024, .fp8e4m3⟩
  | .local _ .vmem, ⟨6, _⟩ => ⟨S1x3x1024x1024, .fp8e4m3⟩
  | .local _ .vmem, ⟨7, _⟩ => ⟨S5x1024, .f32⟩
  | .local _ .vmem, ⟨8, _⟩ => ⟨S5x1024, .f32⟩
  | .local _ .vmem, ⟨9, _⟩ => ⟨S24x40x1024, .bf16⟩
  | .local _ .vmem, ⟨10, _⟩ => ⟨S1x24x40x1024, .fp8e4m3⟩
  | .local _ .vmem, ⟨11, _⟩ => ⟨S1x24x40x1024, .fp8e4m3⟩
  | .local _ .vmem, ⟨12, _⟩ => ⟨S1x24x40x8, .f32⟩
  | .local _ .vmem, ⟨13, _⟩ => ⟨S1x24x40x8, .f32⟩
  | .local _ .vmem, ⟨14, _⟩ => ⟨S1x24x2x1024, .fp8e4m3⟩
  | .local _ .vmem, ⟨15, _⟩ => ⟨S1x24x2x1024, .fp8e4m3⟩
  | .local _ .vmem, ⟨16, _⟩ => ⟨S1x24x2x8, .f32⟩
  | .local _ .vmem, ⟨17, _⟩ => ⟨S1x24x2x8, .f32⟩
  | .local _ .vmem, ⟨18, _⟩ => ⟨S24x40x1024, .f32⟩
  | .local _ .vmem, ⟨19, _⟩ => ⟨S24x40x3072, .bf16⟩
  | _, _ => ⟨S24x40x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v9 : Index := Scalar.indexCast arg14
  let c0_7 : Index := 0#32
  let c0_8 : Index := 0#32
  ![v9.toNat, 0, 0]
def k0_off2 (k0_t1 : Fin k0_t1_loop.trips) : Fin 4 → Nat :=
  let c0_17 : Index := 0#32
  let c0_i32_1 : BitVec 32 := 0#32
  let c1_i32 : BitVec 32 := 1#32
  let arg14 : BitVec 32 := Scf.iv c0_i32_1 c1_i32 k0_t1
  let v77 : Index := Scalar.indexCast arg14
  let c0_18 : Index := 0#32
  let c0_19 : Index := 0#32
  ![0, v77.toNat, 0, 0]
def k0_off3 (k0_t1 : Fin k0_t1_loop.trips) : Fin 4 → Nat :=
  let c0_20 : Index := 0#32
  let c0_i32_1 : BitVec 32 := 0#32
  let c1_i32 : BitVec 32 := 1#32
  let arg14 : BitVec 32 := Scf.iv c0_i32_1 c1_i32 k0_t1
  let v81 : Index := Scalar.indexCast arg14
  let c0_21 : Index := 0#32
  let c0_22 : Index := 0#32
  ![0, v81.toNat, 0, 0]
def k0_off4 (k0_t1 : Fin k0_t1_loop.trips) : Fin 4 → Nat :=
  let c0_23 : Index := 0#32
  let c0_i32_1 : BitVec 32 := 0#32
  let c1_i32 : BitVec 32 := 1#32
  let arg14 : BitVec 32 := Scf.iv c0_i32_1 c1_i32 k0_t1
  let v85 : Index := Scalar.indexCast arg14
  let c0_24 : Index := 0#32
  let c0_25 : Index := 0#32
  ![0, v85.toNat, 0, 0]
def k0_off5 (k0_t1 : Fin k0_t1_loop.trips) : Fin 4 → Nat :=
  let c0_29 : Index := 0#32
  let c0_i32_1 : BitVec 32 := 0#32
  let c1_i32 : BitVec 32 := 1#32
  let arg14 : BitVec 32 := Scf.iv c0_i32_1 c1_i32 k0_t1
  let v97 : Index := Scalar.indexCast arg14
  let c0_30 : Index := 0#32
  let c0_31 : Index := 0#32
  ![0, v97.toNat, 0, 0]
def k0_off6 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v112 : Index := Scalar.indexCast arg14
  let c0_35 : Index := 0#32
  let c0_36 : Index := 0#32
  ![v112.toNat, 0, 0]
def k0_off7 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v118 : Index := Scalar.indexCast arg14
  let c0_37 : Index := 0#32
  let c1024 : Index := 1024#32
  ![v118.toNat, 0, 1024]
def k0_off8 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v124 : Index := Scalar.indexCast arg14
  let c0_38 : Index := 0#32
  let c2048 : Index := 2048#32
  ![v124.toNat, 0, 2048]
def k0_off9 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v128 : Index := Scalar.indexCast arg14
  let c0_39 : Index := 0#32
  let c128 : Index := 128#32
  ![v128.toNat, 0, 128]
def k0_off10 (k0_t1 : Fin k0_t1_loop.trips) : Fin 4 → Nat :=
  let c0_58 : Index := 0#32
  let c0_i32_1 : BitVec 32 := 0#32
  let c1_i32 : BitVec 32 := 1#32
  let arg14 : BitVec 32 := Scf.iv c0_i32_1 c1_i32 k0_t1
  let v196 : Index := Scalar.indexCast arg14
  let c0_59 : Index := 0#32
  let c128_60 : Index := 128#32
  ![0, v196.toNat, 0, 128]
def k0_off11 (k0_t1 : Fin k0_t1_loop.trips) : Fin 4 → Nat :=
  let c0_61 : Index := 0#32
  let c0_i32_1 : BitVec 32 := 0#32
  let c1_i32 : BitVec 32 := 1#32
  let arg14 : BitVec 32 := Scf.iv c0_i32_1 c1_i32 k0_t1
  let v200 : Index := Scalar.indexCast arg14
  let c0_62 : Index := 0#32
  let c1 : Index := 1#32
  ![0, v200.toNat, 0, 1]
def k0_off12 (k0_t1 : Fin k0_t1_loop.trips) : Fin 4 → Nat :=
  let c0_63 : Index := 0#32
  let c0_i32_1 : BitVec 32 := 0#32
  let c1_i32 : BitVec 32 := 1#32
  let arg14 : BitVec 32 := Scf.iv c0_i32_1 c1_i32 k0_t1
  let v204 : Index := Scalar.indexCast arg14
  let c0_64 : Index := 0#32
  let c128_65 : Index := 128#32
  ![0, v204.toNat, 0, 128]
def k0_off13 (k0_t1 : Fin k0_t1_loop.trips) : Fin 4 → Nat :=
  let c0_69 : Index := 0#32
  let c0_i32_1 : BitVec 32 := 0#32
  let c1_i32 : BitVec 32 := 1#32
  let arg14 : BitVec 32 := Scf.iv c0_i32_1 c1_i32 k0_t1
  let v216 : Index := Scalar.indexCast arg14
  let c0_70 : Index := 0#32
  let c1_71 : Index := 1#32
  ![0, v216.toNat, 0, 1]
def k0_off14 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v231 : Index := Scalar.indexCast arg14
  let c0_75 : Index := 0#32
  let c128_76 : Index := 128#32
  ![v231.toNat, 0, 128]
def k0_off15 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v237 : Index := Scalar.indexCast arg14
  let c0_77 : Index := 0#32
  let c1152 : Index := 1152#32
  ![v237.toNat, 0, 1152]
def k0_off16 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v243 : Index := Scalar.indexCast arg14
  let c0_78 : Index := 0#32
  let c2176 : Index := 2176#32
  ![v243.toNat, 0, 2176]
def k0_off17 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v247 : Index := Scalar.indexCast arg14
  let c0_79 : Index := 0#32
  let c256 : Index := 256#32
  ![v247.toNat, 0, 256]
def k0_off18 (k0_t1 : Fin k0_t1_loop.trips) : Fin 4 → Nat :=
  let c0_98 : Index := 0#32
  let c0_i32_1 : BitVec 32 := 0#32
  let c1_i32 : BitVec 32 := 1#32
  let arg14 : BitVec 32 := Scf.iv c0_i32_1 c1_i32 k0_t1
  let v315 : Index := Scalar.indexCast arg14
  let c0_99 : Index := 0#32
  let c256_100 : Index := 256#32
  ![0, v315.toNat, 0, 256]
def k0_off19 (k0_t1 : Fin k0_t1_loop.trips) : Fin 4 → Nat :=
  let c0_101 : Index := 0#32
  let c0_i32_1 : BitVec 32 := 0#32
  let c1_i32 : BitVec 32 := 1#32
  let arg14 : BitVec 32 := Scf.iv c0_i32_1 c1_i32 k0_t1
  let v319 : Index := Scalar.indexCast arg14
  let c0_102 : Index := 0#32
  let c2 : Index := 2#32
  ![0, v319.toNat, 0, 2]
def k0_off20 (k0_t1 : Fin k0_t1_loop.trips) : Fin 4 → Nat :=
  let c0_103 : Index := 0#32
  let c0_i32_1 : BitVec 32 := 0#32
  let c1_i32 : BitVec 32 := 1#32
  let arg14 : BitVec 32 := Scf.iv c0_i32_1 c1_i32 k0_t1
  let v323 : Index := Scalar.indexCast arg14
  let c0_104 : Index := 0#32
  let c256_105 : Index := 256#32
  ![0, v323.toNat, 0, 256]
def k0_off21 (k0_t1 : Fin k0_t1_loop.trips) : Fin 4 → Nat :=
  let c0_109 : Index := 0#32
  let c0_i32_1 : BitVec 32 := 0#32
  let c1_i32 : BitVec 32 := 1#32
  let arg14 : BitVec 32 := Scf.iv c0_i32_1 c1_i32 k0_t1
  let v335 : Index := Scalar.indexCast arg14
  let c0_110 : Index := 0#32
  let c2_111 : Index := 2#32
  ![0, v335.toNat, 0, 2]
def k0_off22 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v350 : Index := Scalar.indexCast arg14
  let c0_115 : Index := 0#32
  let c256_116 : Index := 256#32
  ![v350.toNat, 0, 256]
def k0_off23 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v356 : Index := Scalar.indexCast arg14
  let c0_117 : Index := 0#32
  let c1280 : Index := 1280#32
  ![v356.toNat, 0, 1280]
def k0_off24 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v362 : Index := Scalar.indexCast arg14
  let c0_118 : Index := 0#32
  let c2304 : Index := 2304#32
  ![v362.toNat, 0, 2304]
def k0_off25 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v366 : Index := Scalar.indexCast arg14
  let c0_119 : Index := 0#32
  let c384 : Index := 384#32
  ![v366.toNat, 0, 384]
def k0_off26 (k0_t1 : Fin k0_t1_loop.trips) : Fin 4 → Nat :=
  let c0_138 : Index := 0#32
  let c0_i32_1 : BitVec 32 := 0#32
  let c1_i32 : BitVec 32 := 1#32
  let arg14 : BitVec 32 := Scf.iv c0_i32_1 c1_i32 k0_t1
  let v434 : Index := Scalar.indexCast arg14
  let c0_139 : Index := 0#32
  let c384_140 : Index := 384#32
  ![0, v434.toNat, 0, 384]
def k0_off27 (k0_t1 : Fin k0_t1_loop.trips) : Fin 4 → Nat :=
  let c0_141 : Index := 0#32
  let c0_i32_1 : BitVec 32 := 0#32
  let c1_i32 : BitVec 32 := 1#32
  let arg14 : BitVec 32 := Scf.iv c0_i32_1 c1_i32 k0_t1
  let v438 : Index := Scalar.indexCast arg14
  let c0_142 : Index := 0#32
  let c3 : Index := 3#32
  ![0, v438.toNat, 0, 3]
def k0_off28 (k0_t1 : Fin k0_t1_loop.trips) : Fin 4 → Nat :=
  let c0_143 : Index := 0#32
  let c0_i32_1 : BitVec 32 := 0#32
  let c1_i32 : BitVec 32 := 1#32
  let arg14 : BitVec 32 := Scf.iv c0_i32_1 c1_i32 k0_t1
  let v442 : Index := Scalar.indexCast arg14
  let c0_144 : Index := 0#32
  let c384_145 : Index := 384#32
  ![0, v442.toNat, 0, 384]
def k0_off29 (k0_t1 : Fin k0_t1_loop.trips) : Fin 4 → Nat :=
  let c0_149 : Index := 0#32
  let c0_i32_1 : BitVec 32 := 0#32
  let c1_i32 : BitVec 32 := 1#32
  let arg14 : BitVec 32 := Scf.iv c0_i32_1 c1_i32 k0_t1
  let v454 : Index := Scalar.indexCast arg14
  let c0_150 : Index := 0#32
  let c3_151 : Index := 3#32
  ![0, v454.toNat, 0, 3]
def k0_off30 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v469 : Index := Scalar.indexCast arg14
  let c0_155 : Index := 0#32
  let c384_156 : Index := 384#32
  ![v469.toNat, 0, 384]
def k0_off31 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v475 : Index := Scalar.indexCast arg14
  let c0_157 : Index := 0#32
  let c1408 : Index := 1408#32
  ![v475.toNat, 0, 1408]
def k0_off32 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v481 : Index := Scalar.indexCast arg14
  let c0_158 : Index := 0#32
  let c2432 : Index := 2432#32
  ![v481.toNat, 0, 2432]
def k0_off33 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v485 : Index := Scalar.indexCast arg14
  let c0_159 : Index := 0#32
  let c512 : Index := 512#32
  ![v485.toNat, 0, 512]
def k0_off34 (k0_t1 : Fin k0_t1_loop.trips) : Fin 4 → Nat :=
  let c0_178 : Index := 0#32
  let c0_i32_1 : BitVec 32 := 0#32
  let c1_i32 : BitVec 32 := 1#32
  let arg14 : BitVec 32 := Scf.iv c0_i32_1 c1_i32 k0_t1
  let v553 : Index := Scalar.indexCast arg14
  let c0_179 : Index := 0#32
  let c512_180 : Index := 512#32
  ![0, v553.toNat, 0, 512]
def k0_off35 (k0_t1 : Fin k0_t1_loop.trips) : Fin 4 → Nat :=
  let c0_181 : Index := 0#32
  let c0_i32_1 : BitVec 32 := 0#32
  let c1_i32 : BitVec 32 := 1#32
  let arg14 : BitVec 32 := Scf.iv c0_i32_1 c1_i32 k0_t1
  let v557 : Index := Scalar.indexCast arg14
  let c0_182 : Index := 0#32
  let c4 : Index := 4#32
  ![0, v557.toNat, 0, 4]
def k0_off36 (k0_t1 : Fin k0_t1_loop.trips) : Fin 4 → Nat :=
  let c0_183 : Index := 0#32
  let c0_i32_1 : BitVec 32 := 0#32
  let c1_i32 : BitVec 32 := 1#32
  let arg14 : BitVec 32 := Scf.iv c0_i32_1 c1_i32 k0_t1
  let v561 : Index := Scalar.indexCast arg14
  let c0_184 : Index := 0#32
  let c512_185 : Index := 512#32
  ![0, v561.toNat, 0, 512]
def k0_off37 (k0_t1 : Fin k0_t1_loop.trips) : Fin 4 → Nat :=
  let c0_189 : Index := 0#32
  let c0_i32_1 : BitVec 32 := 0#32
  let c1_i32 : BitVec 32 := 1#32
  let arg14 : BitVec 32 := Scf.iv c0_i32_1 c1_i32 k0_t1
  let v573 : Index := Scalar.indexCast arg14
  let c0_190 : Index := 0#32
  let c4_191 : Index := 4#32
  ![0, v573.toNat, 0, 4]
def k0_off38 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v588 : Index := Scalar.indexCast arg14
  let c0_195 : Index := 0#32
  let c512_196 : Index := 512#32
  ![v588.toNat, 0, 512]
def k0_off39 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v594 : Index := Scalar.indexCast arg14
  let c0_197 : Index := 0#32
  let c1536 : Index := 1536#32
  ![v594.toNat, 0, 1536]
def k0_off40 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v600 : Index := Scalar.indexCast arg14
  let c0_198 : Index := 0#32
  let c2560 : Index := 2560#32
  ![v600.toNat, 0, 2560]
def k0_off41 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v604 : Index := Scalar.indexCast arg14
  let c0_199 : Index := 0#32
  let c640 : Index := 640#32
  ![v604.toNat, 0, 640]
def k0_off42 (k0_t1 : Fin k0_t1_loop.trips) : Fin 4 → Nat :=
  let c0_218 : Index := 0#32
  let c0_i32_1 : BitVec 32 := 0#32
  let c1_i32 : BitVec 32 := 1#32
  let arg14 : BitVec 32 := Scf.iv c0_i32_1 c1_i32 k0_t1
  let v672 : Index := Scalar.indexCast arg14
  let c0_219 : Index := 0#32
  let c640_220 : Index := 640#32
  ![0, v672.toNat, 0, 640]
def k0_off43 (k0_t1 : Fin k0_t1_loop.trips) : Fin 4 → Nat :=
  let c0_221 : Index := 0#32
  let c0_i32_1 : BitVec 32 := 0#32
  let c1_i32 : BitVec 32 := 1#32
  let arg14 : BitVec 32 := Scf.iv c0_i32_1 c1_i32 k0_t1
  let v676 : Index := Scalar.indexCast arg14
  let c0_222 : Index := 0#32
  let c5 : Index := 5#32
  ![0, v676.toNat, 0, 5]
def k0_off44 (k0_t1 : Fin k0_t1_loop.trips) : Fin 4 → Nat :=
  let c0_223 : Index := 0#32
  let c0_i32_1 : BitVec 32 := 0#32
  let c1_i32 : BitVec 32 := 1#32
  let arg14 : BitVec 32 := Scf.iv c0_i32_1 c1_i32 k0_t1
  let v680 : Index := Scalar.indexCast arg14
  let c0_224 : Index := 0#32
  let c640_225 : Index := 640#32
  ![0, v680.toNat, 0, 640]
def k0_off45 (k0_t1 : Fin k0_t1_loop.trips) : Fin 4 → Nat :=
  let c0_229 : Index := 0#32
  let c0_i32_1 : BitVec 32 := 0#32
  let c1_i32 : BitVec 32 := 1#32
  let arg14 : BitVec 32 := Scf.iv c0_i32_1 c1_i32 k0_t1
  let v692 : Index := Scalar.indexCast arg14
  let c0_230 : Index := 0#32
  let c5_231 : Index := 5#32
  ![0, v692.toNat, 0, 5]
def k0_off46 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v707 : Index := Scalar.indexCast arg14
  let c0_235 : Index := 0#32
  let c640_236 : Index := 640#32
  ![v707.toNat, 0, 640]
def k0_off47 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v713 : Index := Scalar.indexCast arg14
  let c0_237 : Index := 0#32
  let c1664 : Index := 1664#32
  ![v713.toNat, 0, 1664]
def k0_off48 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v719 : Index := Scalar.indexCast arg14
  let c0_238 : Index := 0#32
  let c2688 : Index := 2688#32
  ![v719.toNat, 0, 2688]
def k0_off49 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v723 : Index := Scalar.indexCast arg14
  let c0_239 : Index := 0#32
  let c768 : Index := 768#32
  ![v723.toNat, 0, 768]
def k0_off50 (k0_t1 : Fin k0_t1_loop.trips) : Fin 4 → Nat :=
  let c0_258 : Index := 0#32
  let c0_i32_1 : BitVec 32 := 0#32
  let c1_i32 : BitVec 32 := 1#32
  let arg14 : BitVec 32 := Scf.iv c0_i32_1 c1_i32 k0_t1
  let v791 : Index := Scalar.indexCast arg14
  let c0_259 : Index := 0#32
  let c768_260 : Index := 768#32
  ![0, v791.toNat, 0, 768]
def k0_off51 (k0_t1 : Fin k0_t1_loop.trips) : Fin 4 → Nat :=
  let c0_261 : Index := 0#32
  let c0_i32_1 : BitVec 32 := 0#32
  let c1_i32 : BitVec 32 := 1#32
  let arg14 : BitVec 32 := Scf.iv c0_i32_1 c1_i32 k0_t1
  let v795 : Index := Scalar.indexCast arg14
  let c0_262 : Index := 0#32
  let c6 : Index := 6#32
  ![0, v795.toNat, 0, 6]
def k0_off52 (k0_t1 : Fin k0_t1_loop.trips) : Fin 4 → Nat :=
  let c0_263 : Index := 0#32
  let c0_i32_1 : BitVec 32 := 0#32
  let c1_i32 : BitVec 32 := 1#32
  let arg14 : BitVec 32 := Scf.iv c0_i32_1 c1_i32 k0_t1
  let v799 : Index := Scalar.indexCast arg14
  let c0_264 : Index := 0#32
  let c768_265 : Index := 768#32
  ![0, v799.toNat, 0, 768]
def k0_off53 (k0_t1 : Fin k0_t1_loop.trips) : Fin 4 → Nat :=
  let c0_269 : Index := 0#32
  let c0_i32_1 : BitVec 32 := 0#32
  let c1_i32 : BitVec 32 := 1#32
  let arg14 : BitVec 32 := Scf.iv c0_i32_1 c1_i32 k0_t1
  let v811 : Index := Scalar.indexCast arg14
  let c0_270 : Index := 0#32
  let c6_271 : Index := 6#32
  ![0, v811.toNat, 0, 6]
def k0_off54 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v826 : Index := Scalar.indexCast arg14
  let c0_275 : Index := 0#32
  let c768_276 : Index := 768#32
  ![v826.toNat, 0, 768]
def k0_off55 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v832 : Index := Scalar.indexCast arg14
  let c0_277 : Index := 0#32
  let c1792 : Index := 1792#32
  ![v832.toNat, 0, 1792]
def k0_off56 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v838 : Index := Scalar.indexCast arg14
  let c0_278 : Index := 0#32
  let c2816 : Index := 2816#32
  ![v838.toNat, 0, 2816]
def k0_off57 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v842 : Index := Scalar.indexCast arg14
  let c0_279 : Index := 0#32
  let c896 : Index := 896#32
  ![v842.toNat, 0, 896]
def k0_off58 (k0_t1 : Fin k0_t1_loop.trips) : Fin 4 → Nat :=
  let c0_298 : Index := 0#32
  let c0_i32_1 : BitVec 32 := 0#32
  let c1_i32 : BitVec 32 := 1#32
  let arg14 : BitVec 32 := Scf.iv c0_i32_1 c1_i32 k0_t1
  let v910 : Index := Scalar.indexCast arg14
  let c0_299 : Index := 0#32
  let c896_300 : Index := 896#32
  ![0, v910.toNat, 0, 896]
def k0_off59 (k0_t1 : Fin k0_t1_loop.trips) : Fin 4 → Nat :=
  let c0_301 : Index := 0#32
  let c0_i32_1 : BitVec 32 := 0#32
  let c1_i32 : BitVec 32 := 1#32
  let arg14 : BitVec 32 := Scf.iv c0_i32_1 c1_i32 k0_t1
  let v914 : Index := Scalar.indexCast arg14
  let c0_302 : Index := 0#32
  let c7 : Index := 7#32
  ![0, v914.toNat, 0, 7]
def k0_off60 (k0_t1 : Fin k0_t1_loop.trips) : Fin 4 → Nat :=
  let c0_303 : Index := 0#32
  let c0_i32_1 : BitVec 32 := 0#32
  let c1_i32 : BitVec 32 := 1#32
  let arg14 : BitVec 32 := Scf.iv c0_i32_1 c1_i32 k0_t1
  let v918 : Index := Scalar.indexCast arg14
  let c0_304 : Index := 0#32
  let c896_305 : Index := 896#32
  ![0, v918.toNat, 0, 896]
def k0_off61 (k0_t1 : Fin k0_t1_loop.trips) : Fin 4 → Nat :=
  let c0_309 : Index := 0#32
  let c0_i32_1 : BitVec 32 := 0#32
  let c1_i32 : BitVec 32 := 1#32
  let arg14 : BitVec 32 := Scf.iv c0_i32_1 c1_i32 k0_t1
  let v930 : Index := Scalar.indexCast arg14
  let c0_310 : Index := 0#32
  let c7_311 : Index := 7#32
  ![0, v930.toNat, 0, 7]
def k0_off62 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v945 : Index := Scalar.indexCast arg14
  let c0_315 : Index := 0#32
  let c896_316 : Index := 896#32
  ![v945.toNat, 0, 896]
def k0_off63 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v951 : Index := Scalar.indexCast arg14
  let c0_317 : Index := 0#32
  let c1920 : Index := 1920#32
  ![v951.toNat, 0, 1920]
def k0_off64 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v957 : Index := Scalar.indexCast arg14
  let c0_318 : Index := 0#32
  let c2944 : Index := 2944#32
  ![v957.toNat, 0, 2944]
def k0_off65 (i : grid0.Coords) : Fin 2 → Nat :=
  let arg0 : BitVec 32 := BitVec.ofNat 32 (i 0).val
  let v4 : Index := Scalar.indexCast arg0
  let c0 : Index := 0#32
  ![v4.toNat, 0]
@[reducible] def k0_t2_loop : Scf.Loop 32 :=
  let c0_i32_4 : BitVec 32 := 0#32
  let c12_i32 : BitVec 32 := 12#32
  let v8 : BitVec 32 := Scalar.addi c0_i32_4 c12_i32
  let c1_i32_5 : BitVec 32 := 1#32
  ⟨c0_i32_4, v8, c1_i32_5⟩
def k0_off66 (k0_t2 : Fin k0_t2_loop.trips) : Fin 3 → Nat :=
  let c0_i32_4 : BitVec 32 := 0#32
  let c1_i32_5 : BitVec 32 := 1#32
  let arg14 : BitVec 32 := Scf.iv c0_i32_4 c1_i32_5 k0_t2
  let c2_i32 : BitVec 32 := 2#32
  let v9 : BitVec 32 := Scalar.muli arg14 c2_i32
  let v10 : Index := Scalar.indexCast v9
  let c0_7 : Index := 0#32
  let c0_8 : Index := 0#32
  ![v10.toNat, 0, 0]
def k0_cond2 (i : grid0.Coords) : BitVec 1 :=
  let arg0 : BitVec 32 := BitVec.ofNat 32 (i 0).val
  let c4_i32 : BitVec 32 := 4#32
  let v21 : BitVec 1 := Scalar.cmpi .slt arg0 c4_i32
  let v22 : BitVec 32 := Scalar.extui v21
  let c0_i32_13 : BitVec 32 := 0#32
  let v23 : BitVec 1 := Scalar.cmpi .ne v22 c0_i32_13
  v23

def k0_off67 (k0_t2 : Fin k0_t2_loop.trips) : Fin 3 → Nat :=
  let c0_i32_4 : BitVec 32 := 0#32
  let c1_i32_5 : BitVec 32 := 1#32
  let arg14 : BitVec 32 := Scf.iv c0_i32_4 c1_i32_5 k0_t2
  let c2_i32 : BitVec 32 := 2#32
  let v9 : BitVec 32 := Scalar.muli arg14 c2_i32
  let v38 : Index := Scalar.indexCast v9
  let c0_19 : Index := 0#32
  let c0_20 : Index := 0#32
  ![v38.toNat, 0, 0]
def k0_cond3 (i : grid0.Coords) : BitVec 1 :=
  let arg0 : BitVec 32 := BitVec.ofNat 32 (i 0).val
  let c4_i32_14 : BitVec 32 := 4#32
  let v24 : BitVec 1 := Scalar.cmpi .eq arg0 c4_i32_14
  let v25 : BitVec 32 := Scalar.extui v24
  let c0_i32_15 : BitVec 32 := 0#32
  let v26 : BitVec 1 := Scalar.cmpi .ne v25 c0_i32_15
  v26

def k0_off68 (k0_t2 : Fin k0_t2_loop.trips) : Fin 3 → Nat :=
  let c0_i32_4 : BitVec 32 := 0#32
  let c1_i32_5 : BitVec 32 := 1#32
  let arg14 : BitVec 32 := Scf.iv c0_i32_4 c1_i32_5 k0_t2
  let c2_i32 : BitVec 32 := 2#32
  let v9 : BitVec 32 := Scalar.muli arg14 c2_i32
  let v29 : Index := Scalar.indexCast v9
  let c0_16 : Index := 0#32
  let c0_17 : Index := 0#32
  ![v29.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S24x40x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x24x2x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x24x2x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x40x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x24x40x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x24x40x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x24x2x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x24x2x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S24x40x1024 : Shape := ⟨3, ![24, 40, 1024]⟩
abbrev S5x24x2x1024 : Shape := ⟨4, ![5, 24, 2, 1024]⟩
abbrev S5x24x2x8 : Shape := ⟨4, ![5, 24, 2, 8]⟩
abbrev S5x3x1024x1024 : Shape := ⟨4, ![5, 3, 1024, 1024]⟩
abbrev S5x1024 : Shape := ⟨2, ![5, 1024]⟩
abbrev S5x24x40x1024 : Shape := ⟨4, ![5, 24, 40, 1024]⟩
abbrev S5x24x40x8 : Shape := ⟨4, ![5, 24, 40, 8]⟩
abbrev S24x40x8x128 : Shape := ⟨4, ![24, 40, 8, 128]⟩
abbrev S24x40x8 : Shape := ⟨3, ![24, 40, 8]⟩
abbrev S24x40x8x246 : Shape := ⟨4, ![24, 40, 8, 246]⟩
abbrev S24x40x8x1 : Shape := ⟨4, ![24, 40, 8, 1]⟩
abbrev S1x24x2x1024 : Shape := ⟨4, ![1, 24, 2, 1024]⟩
abbrev S24x2x1024 : Shape := ⟨3, ![24, 2, 1024]⟩
abbrev S24x42x1024 : Shape := ⟨3, ![24, 42, 1024]⟩
abbrev S1x24x2x8 : Shape := ⟨4, ![1, 24, 2, 8]⟩
abbrev S24x2x8 : Shape := ⟨3, ![24, 2, 8]⟩
abbrev S24x42x8 : Shape := ⟨3, ![24, 42, 8]⟩
abbrev S24x42x8x128 : Shape := ⟨4, ![24, 42, 8, 128]⟩
abbrev S24x42x8x1 : Shape := ⟨4, ![24, 42, 8, 1]⟩
abbrev S24x40x1x1024 : Shape := ⟨4, ![24, 40, 1, 1024]⟩
abbrev S24x40x3x1024 : Shape := ⟨4, ![24, 40, 3, 1024]⟩
abbrev S1x3x1024x1024 : Shape := ⟨4, ![1, 3, 1024, 1024]⟩
abbrev S3x1024x1024 : Shape := ⟨3, ![3, 1024, 1024]⟩
abbrev S1x1024 : Shape := ⟨2, ![1, 1024]⟩
abbrev S1024 : Shape := ⟨1, ![1024]⟩
abbrev S1x1x1024 : Shape := ⟨3, ![1, 1, 1024]⟩
abbrev S1x24x40x1024 : Shape := ⟨4, ![1, 24, 40, 1024]⟩
abbrev S1x24x40x8 : Shape := ⟨4, ![1, 24, 40, 8]⟩

abbrev nBuf : Space → Nat
  | .hbm => 11
  | .vmem => 11
  | .smem => 0
  | _ => 0

abbrev bufTy : (tb : Table) → Fin (tcTables nBuf tb) → BufTy
  | .hbm, ⟨0, _⟩ => ⟨S24x40x1024, .bf16⟩
  | .hbm, ⟨1, _⟩ => ⟨S5x24x2x1024, .fp8e4m3⟩
  | .hbm, ⟨2, _⟩ => ⟨S5x24x2x8, .f32⟩
  | .hbm, ⟨3, _⟩ => ⟨S5x3x1024x1024, .fp8e4m3⟩
  | .hbm, ⟨4, _⟩ => ⟨S5x1024, .f32⟩
  | .hbm, ⟨5, _⟩ => ⟨S5x1024, .f32⟩
  | .hbm, ⟨6, _⟩ => ⟨S24x40x1024, .bf16⟩
  | .hbm, ⟨7, _⟩ => ⟨S5x24x40x1024, .fp8e4m3⟩
  | .hbm, ⟨8, _⟩ => ⟨S5x24x40x8, .f32⟩
  | .hbm, ⟨9, _⟩ => ⟨S5x24x2x1024, .fp8e4m3⟩
  | .hbm, ⟨10, _⟩ => ⟨S5x24x2x8, .f32⟩
  | .local _ .vmem, ⟨0, _⟩ => ⟨S24x40x1024, .bf16⟩
  | .local _ .vmem, ⟨1, _⟩ => ⟨S5x24x2x1024, .fp8e4m3⟩
  | .local _ .vmem, ⟨2, _⟩ => ⟨S5x24x2x8, .f32⟩
  | .local _ .vmem, ⟨3, _⟩ => ⟨S5x3x1024x1024, .fp8e4m3⟩
  | .local _ .vmem, ⟨4, _⟩ => ⟨S5x1024, .f32⟩
  | .local _ .vmem, ⟨5, _⟩ => ⟨S5x1024, .f32⟩
  | .local _ .vmem, ⟨6, _⟩ => ⟨S24x40x1024, .bf16⟩
  | .local _ .vmem, ⟨7, _⟩ => ⟨S5x24x40x1024, .fp8e4m3⟩
  | .local _ .vmem, ⟨8, _⟩ => ⟨S5x24x40x8, .f32⟩
  | .local _ .vmem, ⟨9, _⟩ => ⟨S5x24x2x1024, .fp8e4m3⟩
  | .local _ .vmem, ⟨10, _⟩ => ⟨S5x24x2x8, .f32⟩
  | _, _ => ⟨S24x40x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x40x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x24x2x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x24x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x3x1024x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x40x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x24x40x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x24x40x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5x24x2x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5x24x2x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.P.Common.lean ====
module

public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.Kernel.Skeleton
public import proofs.«01_k».proof.Proof.Gen.Kernel.Loops
public import Idealize.ShloMosaic.Lib.Claim

/-!
What the runs of the kernel share: the branch condition of its first store over the points, where its
input windows are idle, the staging and scratch memrefs by name, the invariant of its scratch.
-/

@[expose] public section

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The argument arrays end unchanged, from any run of the frame kind. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S24x40x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x24x2x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x2x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1024x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x40x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x24x40x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x24x40x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x24x2x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x24x2x8 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S24x40x1024 .f32 := Memref.whole cc0_scratch0
abbrev scM0_1 : Memref sig .tc .vmem S24x40x3072 .bf16 := Memref.whole cc0_scratch1
/-- The scratch `arg12` the kernel carries between points, as a view: what it holds is stated through it. -/
abbrev VS0_0 : View sig .tc .vmem S24x40x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.P.Frame.lean ====
module

public import proofs.«01_k».proof.Proof.P.Common
public import Idealize.ShloMosaic.Lib.Claim

/-!
The kernel's frame at any float values: the body is run on its buffers at any contents, and nothing is said of what it
leaves in its outputs and its scratch.
-/

@[expose] public section

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point, where it fills the carried activations: the inputs are left as they were, every other
    buffer at some contents. -/
theorem body_first (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : cond0_0 i)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1000000 in
/-- The body at a later point: the inputs are left as they were, every other buffer at some contents. -/
theorem body_next (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : ¬cond0_0 i)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The outputs, of which nothing is said. -/
def forgets : Fin 11 → Bool := fun w => w.val == 6 || w.val == 7 || w.val == 8 || w.val == 9 || w.val == 10

/-- The proof data on core `c`: the arrays as the region finds them; each input's buffer keeps its block; the outputs
    unnamed; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each input's buffer is its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- The body at any point, from the inputs' blocks and everything else at anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  by_cases h0 : cond0_0 (grid0.coords t)
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_next c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point, the outputs forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, with every input array unchanged and every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (fun c => (dats m 0 c).toRForget forgets) (A_eq m) ((θ_run defs _ _).mono (fun _ h => h.1) (run_main m ρ)))
    ((θ_run defs _ _).mono (fun _ h => h.2) (run_main m ρ))

end Cert.Kernel.Frame

end
-- ==== Proof.PI.Common.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

/-!
What the runs of the idealized kernel share: the branch condition of its first store over the points, where its
input windows are idle, the staging and scratch memrefs by name, the invariant of its scratch.
-/

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S24x40x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x24x2x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x24x2x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1024x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x40x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x24x40x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x24x40x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x24x2x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x24x2x8 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S24x40x1024 .f32 := Memref.whole cc0_scratch0
abbrev scM0_1 : Memref sig .tc .vmem S24x40x3072 .bf16 := Memref.whole cc0_scratch1
/-- The scratch `arg12` the kernel carries between points, as a view: what it holds is stated through it. -/
abbrev VS0_0 : View sig .tc .vmem S24x40x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.PI.Frame.lean ====
module

public import proofs.«01_k».proof.Proof.PI.Common
public import Idealize.ShloMosaic.Lib.Claim

/-!
The kernel's frame at any float values: the body is run on its buffers at any contents, and nothing is said of what it
leaves in its outputs and its scratch.
-/

@[expose] public section

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_of_r (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

set_option maxHeartbeats 1000000 in
/-- The body at the first point, where it fills the carried activations: the inputs are left as they were, every other
    buffer at some contents. -/
theorem body_first (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : cond0_0 i)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1000000 in
/-- The body at a later point: the inputs are left as they were, every other buffer at some contents. -/
theorem body_next (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : ¬cond0_0 i)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The outputs, of which nothing is said. -/
def forgets : Fin 11 → Bool := fun w => w.val == 6 || w.val == 7 || w.val == 8 || w.val == 9 || w.val == 10

/-- The proof data on core `c`: the arrays as the region finds them; each input's buffer keeps its block; the outputs
    unnamed; the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each input's buffer is its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- The body at any point, from the inputs' blocks and everything else at anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  by_cases h0 : cond0_0 (grid0.coords t)
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_next c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point, the outputs forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every execution ends, with every input array unchanged and every semaphore counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of_r m ρ (fun c => (dats m 0 c).toRForget forgets) (A_eq m) ((θ_run defs _ _).mono (fun _ h => h.1) (run_main m ρ)))
    ((θ_run defs _ _).mono (fun _ h => h.2) (run_main m ρ))

end Cert.KernelIdeal.Frame

end
-- ==== Proof.PI.Blocks.lean ====
module

public import proofs.«01_k».proof.Proof.PI.Common
public import Idealize.ShloMosaic.Lib.Pointwise
public import Idealize.ShloMosaic.Lib.VecWindow

/-!
What the kernel's two loops write, as functions of an output's index: every piece a trip stores is the part of one
whole-buffer function that lies under the piece's rectangle.
-/

@[expose] public section

noncomputable section

namespace Cert.KernelIdeal.Value

open Cert.KernelIdeal Cert.KernelIdeal.Gen
open Idealize.ShloMosaic Idealize.ShloMosaic.TcCoe Idealize.ShloMosaic.Tactic

variable {F : FTy → Type} [FloatOps F]

/-- Pieces that all lie on one function `G`, and between them cover the indices with `P`. -/
def Tiles {s : Shape} {e : EltTy} (G : s.Idx → Elt F e) (P : s.Idx → Prop) (L : List (View.Piece (Elt F) s e)) : Prop :=
  (∀ p ∈ L, ∀ x, p.2 x = G (p.1.emb x)) ∧ ∀ y, P y → ∃ p ∈ L, y ∈ p.1.set

theorem Tiles.nil {s : Shape} {e : EltTy} (G : s.Idx → Elt F e) (P : s.Idx → Prop) (h : ∀ y, ¬ P y) :
    Tiles G P [] := ⟨fun _ h => absurd h (by simp), fun y hy => absurd hy (h y)⟩

/-- Pieces of two lists cover what either covers. -/
theorem Tiles.append {s : Shape} {e : EltTy} {G : s.Idx → Elt F e} {P Q R : s.Idx → Prop}
    {L M : List (View.Piece (Elt F) s e)} (hL : Tiles G P L) (hM : Tiles G Q M) (h : ∀ y, R y → P y ∨ Q y) :
    Tiles G R (L ++ M) := by
  refine ⟨fun p hp => ?_, fun y hy => ?_⟩
  · rcases List.mem_append.1 hp with hp | hp
    · exact hL.1 p hp
    · exact hM.1 p hp
  · rcases h y hy with hy | hy
    · obtain ⟨p, hp, hy⟩ := hL.2 y hy
      exact ⟨p, List.mem_append_left _ hp, hy⟩
    · obtain ⟨p, hp, hy⟩ := hM.2 y hy
      exact ⟨p, List.mem_append_right _ hp, hy⟩

/-- One more piece on the function. -/
theorem Tiles.cons {s : Shape} {e : EltTy} {G : s.Idx → Elt F e} {P R : s.Idx → Prop} {r : Rect s}
    {w : r.shape.Idx → Elt F e} {L : List (View.Piece (Elt F) s e)} (hw : ∀ x, w x = G (r.emb x)) (hL : Tiles G P L)
    (h : ∀ y, R y → y ∈ r.set ∨ P y) : Tiles G R (⟨r, w⟩ :: L) := by
  refine ⟨fun p hp => ?_, fun y hy => ?_⟩
  · rcases List.mem_cons.1 hp with rfl | hp
    · exact hw
    · exact hL.1 p hp
  · rcases h y hy with hy | hy
    · exact ⟨_, List.mem_cons_self, hy⟩
    · obtain ⟨p, hp, hy⟩ := hL.2 y hy
      exact ⟨p, List.mem_cons_of_mem _ hp, hy⟩

/-- A buffer written with pieces that cover it reads as their function. -/
theorem Tiles.read {s : Shape} {e : EltTy} {G : s.Idx → Elt F e} {P : s.Idx → Prop} {L : List (View.Piece (Elt F) s e)}
    (hL : Tiles G P L) (h : ∀ y, P y) (m : Memref sig .tc .vmem s e) (f : BufTy.Contents (Elt F) m.view.ty) :
    m.view.read (Elt F) (m.view.writes (Elt F) f L) = G := by
  funext y
  exact View.read_writes_apply_of_pieces _ f G L hL.1 y (hL.2 y (h y))

/-- Block `j` of row `k` of the activations: its 128 channels for the 40 time steps. -/
def blk (a : Vec F S24x40x1024 .f32) (k : Fin 24) (j : Fin 8) : Vec F S1x40x128 .f32 :=
  fun x => a (ix3 k (x 1) ⟨128 * j.val + (x 2).val, by have := (x 2).isLt; have : (x 2).val < 128 := this; omega⟩)

theorem readAt_blk (m : Memref sig .tc .vmem S24x40x1024 .f32) (X : BufTy.Contents (Elt F) m.view.ty) (k : Fin 24)
    (j : Fin 8) {off : Fin 3 → Nat} (h : off = ![k.val, 0, 128 * j.val]) (inb) :
    View.readAt (Elt F) m.view (Rect.unit (s := S24x40x1024) off ![1, 40, 128] inb).toLoadRect X
      = blk (m.view.read (Elt F) X) k j := by
  subst h
  rw [View.readAt_unit m.view X inb rfl inb]
  funext x
  unfold VecWindow.window blk
  congr 1
  funext d
  fin_cases d <;> ext <;> simp [ix3]
  exact Nat.lt_one_iff.1 (x 0).isLt

/-- Block `j` of row `k` of the incoming codes. -/
def scblk (b : Vec F S1x24x2x1024 .fp8e4m3) (k : Fin 24) (j : Fin 8) : Vec F S1x1x2x128 .fp8e4m3 :=
  fun x => b (ix4 0 k (x 2) ⟨128 * j.val + (x 3).val, by have := (x 3).isLt; have : (x 3).val < 128 := this; omega⟩)

theorem readAt_scblk (m : Memref sig .tc .vmem S1x24x2x1024 .fp8e4m3) (X : BufTy.Contents (Elt F) m.view.ty) (k : Fin 24)
    (j : Fin 8) {off : Fin 4 → Nat} (h : off = ![0, k.val, 0, 128 * j.val]) (inb) :
    View.readAt (Elt F) m.view (Rect.unit (s := S1x24x2x1024) off ![1, 1, 2, 128] inb).toLoadRect X
      = scblk (m.view.read (Elt F) X) k j := by
  subst h
  rw [View.readAt_unit m.view X inb rfl inb]
  funext x
  unfold VecWindow.window scblk
  congr 1
  funext d
  fin_cases d <;> ext <;> simp [ix4]
  all_goals first
    | exact Nat.lt_one_iff.1 (x 0).isLt
    | exact Nat.lt_one_iff.1 (x 1).isLt
    | exact Nat.lt_one_iff.1 (x 3).isLt

/-- Column `j` of row `k` of the incoming scales. -/
def ssblk (b : Vec F S1x24x2x8 .f32) (k : Fin 24) (j : Fin 8) : Vec F S1x1x2x1 .f32 :=
  fun x => b (ix4 0 k (x 2) j)

theorem readAt_ssblk (m : Memref sig .tc .vmem S1x24x2x8 .f32) (X : BufTy.Contents (Elt F) m.view.ty) (k : Fin 24)
    (j : Fin 8) {off : Fin 4 → Nat} (h : off = ![0, k.val, 0, j.val]) (inb) :
    View.readAt (Elt F) m.view (Rect.unit (s := S1x24x2x8) off ![1, 1, 2, 1] inb).toLoadRect X
      = ssblk (m.view.read (Elt F) X) k j := by
  subst h
  rw [View.readAt_unit m.view X inb rfl inb]
  funext x
  unfold VecWindow.window ssblk
  congr 1
  funext d
  fin_cases d <;> ext <;> simp [ix4]
  all_goals first
    | exact Nat.lt_one_iff.1 (x 0).isLt
    | exact Nat.lt_one_iff.1 (x 1).isLt
    | exact Nat.lt_one_iff.1 (x 3).isLt

/-- The block of an index along the channels, and its place in the block. -/
def jOf (c : Fin 1024) : Fin 8 := ⟨c.val / 128, by have := c.isLt; omega⟩
def cOf (c : Fin 1024) : Fin 128 := ⟨c.val % 128, Nat.mod_lt _ (by omega)⟩

/-- The codes the kernel writes. -/
def G8 (a : Vec F S24x40x1024 .f32) : Vec F S1x24x40x1024 .fp8e4m3 := fun y =>
  let b := blk a (y 1) (jOf (y 3))
  k0_pay12 (k0_pay6 b) (k0_pay7 b) (k0_pay8 b) (ix4 0 0 (y 2) (cOf (y 3)))

/-- The scales the kernel writes. -/
def G9 (a : Vec F S24x40x1024 .f32) : Vec F S1x24x40x8 .f32 := fun y =>
  let b := blk a (y 1) (y 3)
  k0_pay13 (k0_pay7 b) (k0_pay8 b) (ix4 0 0 (y 2) 0)

/-- The next state's codes the kernel writes. -/
def G10 (a : Vec F S24x40x1024 .f32) : Vec F S1x24x2x1024 .fp8e4m3 := fun y =>
  let b := blk a (y 1) (jOf (y 3))
  k0_pay16 (k0_pay15 (k0_pay6 b) (k0_pay7 b) (k0_pay8 b)) (ix4 0 0 (y 2) (cOf (y 3)))

/-- The next state's scales the kernel writes. -/
def G11 (a : Vec F S24x40x1024 .f32) : Vec F S1x24x2x8 .f32 := fun y =>
  let b := blk a (y 1) (y 3)
  k0_pay17 (k0_pay10 (k0_pay7 b) (k0_pay8 b)) (ix4 0 0 (y 2) 0)

/-- The three rows side by side the kernel writes: column `1024 q + 128 j + c` is channel `128 j + c` of the row `q`
    places on. -/
def G13 (a : Vec F S24x40x1024 .f32) (sc : Vec F S1x24x2x1024 .fp8e4m3) (ss : Vec F S1x24x2x8 .f32) :
    Vec F S24x40x3072 .bf16 := fun y =>
  let c : Fin 1024 := ⟨(y 2).val % 1024, Nat.mod_lt _ (by omega)⟩
  let b := blk a (y 0) (jOf c)
  let s := k0_pay10 (k0_pay7 b) (k0_pay8 b)
  let q := k0_pay11 (k0_pay6 b) (k0_pay7 b) (k0_pay8 b)
  let u := k0_pay14 (scblk sc (y 0) (jOf c))
  let v := ssblk ss (y 0) (jOf c)
  if (y 2).val < 1024 then k0_pay19 s q u v (ix3 0 (y 1) (cOf c))
  else if (y 2).val < 2048 then k0_pay20 s q u v (ix3 0 (y 1) (cOf c))
  else k0_pay21 s q u v (ix3 0 (y 1) (cOf c))

theorem jOf_eq (c : Fin 1024) (j : Fin 8) (x : Fin 128) (h : c.val = 128 * j.val + x.val) : jOf c = j := by
  ext; have := x.isLt; simp only [jOf]; omega
theorem cOf_eq (c : Fin 1024) (j : Fin 8) (x : Fin 128) (h : c.val = 128 * j.val + x.val) : cOf c = x := by
  ext; have := x.isLt; simp only [cOf]; omega

/-- An index of a piece of shape `1 × 1 × n × p`. -/
theorem idx4 {n p : Nat} (x : (⟨4, ![1, 1, n, p]⟩ : Shape).Idx) : x = ix4 0 0 (x 2) (x 3) := by
  conv_lhs => rw [eq_ix4 x]
  congr 1 <;> exact Subsingleton.elim (α := Fin 1) _ _
theorem idx4' {n : Nat} (x : (⟨4, ![1, 1, n, 1]⟩ : Shape).Idx) : x = ix4 0 0 (x 2) 0 := by
  conv_lhs => rw [eq_ix4 x]
  congr 1 <;> exact Subsingleton.elim (α := Fin 1) _ _
theorem idx3 {n p : Nat} (x : (⟨3, ![1, n, p]⟩ : Shape).Idx) : x = ix3 0 (x 1) (x 2) := by
  conv_lhs => rw [eq_ix3 x]
  congr 1; exact Subsingleton.elim (α := Fin 1) _ _

theorem ok8 (m : Memref sig .tc .vmem S24x40x1024 .f32) (X : BufTy.Contents (Elt F) m.view.ty) (k : Fin 24) (j : Fin 8)
    {off : Fin 3 → Nat} (h : off = ![k.val, 0, 128 * j.val]) (inb) {off' : Fin 4 → Nat}
    (h' : off' = ![0, k.val, 0, 128 * j.val]) (inb') (x : S1x1x40x128.Idx) :
    (let b : Vec F S1x40x128 .f32 := View.readAt (Elt F) m.view (Rect.unit (s := S24x40x1024) off ![1, 40, 128] inb).toLoadRect X
     k0_pay12 (k0_pay6 b) (k0_pay7 b) (k0_pay8 b) x)
      = G8 (m.view.read (Elt F) X) ((Rect.unit (s := S1x24x40x1024) off' ![1, 1, 40, 128] inb').emb x) := by
  rw [readAt_blk m X k j h inb]
  subst h'
  have e3 : ((Rect.unit (s := S1x24x40x1024) ![0, k.val, 0, 128 * j.val] ![1, 1, 40, 128] inb').emb x 3).val = 128 * j.val + (x 3).val := by
    simp
  have e1 : (Rect.unit (s := S1x24x40x1024) ![0, k.val, 0, 128 * j.val] ![1, 1, 40, 128] inb').emb x 1 = k := by
    ext; simpa using Nat.lt_one_iff.1 (x 1).isLt
  have e2 : (Rect.unit (s := S1x24x40x1024) ![0, k.val, 0, 128 * j.val] ![1, 1, 40, 128] inb').emb x 2 = x 2 := by
    ext; simp
  unfold G8
  rw [e1, e2, jOf_eq _ j (x 3) e3, cOf_eq _ j (x 3) e3]
  exact congrArg (k0_pay12 (k0_pay6 _) (k0_pay7 _) (k0_pay8 _)) (idx4 (n := 40) (p := 128) x)

theorem ok9 (m : Memref sig .tc .vmem S24x40x1024 .f32) (X : BufTy.Contents (Elt F) m.view.ty) (k : Fin 24) (j : Fin 8)
    {off : Fin 3 → Nat} (h : off = ![k.val, 0, 128 * j.val]) (inb) {off' : Fin 4 → Nat}
    (h' : off' = ![0, k.val, 0, j.val]) (inb') (x : S1x1x40x1.Idx) :
    (let b : Vec F S1x40x128 .f32 := View.readAt (Elt F) m.view (Rect.unit (s := S24x40x1024) off ![1, 40, 128] inb).toLoadRect X
     k0_pay13 (k0_pay7 b) (k0_pay8 b) x)
      = G9 (m.view.read (Elt F) X) ((Rect.unit (s := S1x24x40x8) off' ![1, 1, 40, 1] inb').emb x) := by
  rw [readAt_blk m X k j h inb]
  subst h'
  have e3 : ((Rect.unit (s := S1x24x40x8) ![0, k.val, 0, j.val] ![1, 1, 40, 1] inb').emb x 3).val = j.val + (x 3).val := by
    simp
  have e1 : (Rect.unit (s := S1x24x40x8) ![0, k.val, 0, j.val] ![1, 1, 40, 1] inb').emb x 1 = k := by
    ext; simpa using Nat.lt_one_iff.1 (x 1).isLt
  have e2 : (Rect.unit (s := S1x24x40x8) ![0, k.val, 0, j.val] ![1, 1, 40, 1] inb').emb x 2 = x 2 := by
    ext; simp
  unfold G9
  rw [e1, e2, show (Rect.unit (s := S1x24x40x8) ![0, k.val, 0, j.val] ![1, 1, 40, 1] inb').emb x 3 = j from Fin.ext (e3.trans (by simpa using Nat.lt_one_iff.1 (x 3).isLt))]
  exact congrArg (k0_pay13 (k0_pay7 _) (k0_pay8 _)) (idx4' (n := 40) x)

theorem ok10 (m : Memref sig .tc .vmem S24x40x1024 .f32) (X : BufTy.Contents (Elt F) m.view.ty) (k : Fin 24) (j : Fin 8)
    {off : Fin 3 → Nat} (h : off = ![k.val, 0, 128 * j.val]) (inb) {off' : Fin 4 → Nat}
    (h' : off' = ![0, k.val, 0, 128 * j.val]) (inb') (x : S1x1x2x128.Idx) :
    (let b : Vec F S1x40x128 .f32 := View.readAt (Elt F) m.view (Rect.unit (s := S24x40x1024) off ![1, 40, 128] inb).toLoadRect X
     k0_pay16 (k0_pay15 (k0_pay6 b) (k0_pay7 b) (k0_pay8 b)) x)
      = G10 (m.view.read (Elt F) X) ((Rect.unit (s := S1x24x2x1024) off' ![1, 1, 2, 128] inb').emb x) := by
  rw [readAt_blk m X k j h inb]
  subst h'
  have e3 : ((Rect.unit (s := S1x24x2x1024) ![0, k.val, 0, 128 * j.val] ![1, 1, 2, 128] inb').emb x 3).val = 128 * j.val + (x 3).val := by
    simp
  have e1 : (Rect.unit (s := S1x24x2x1024) ![0, k.val, 0, 128 * j.val] ![1, 1, 2, 128] inb').emb x 1 = k := by
    ext; simpa using Nat.lt_one_iff.1 (x 1).isLt
  have e2 : (Rect.unit (s := S1x24x2x1024) ![0, k.val, 0, 128 * j.val] ![1, 1, 2, 128] inb').emb x 2 = x 2 := by
    ext; simp
  unfold G10
  rw [e1, e2, jOf_eq _ j (x 3) e3, cOf_eq _ j (x 3) e3]
  exact congrArg (k0_pay16 (k0_pay15 (k0_pay6 _) (k0_pay7 _) (k0_pay8 _))) (idx4 (n := 2) (p := 128) x)

theorem ok11 (m : Memref sig .tc .vmem S24x40x1024 .f32) (X : BufTy.Contents (Elt F) m.view.ty) (k : Fin 24) (j : Fin 8)
    {off : Fin 3 → Nat} (h : off = ![k.val, 0, 128 * j.val]) (inb) {off' : Fin 4 → Nat}
    (h' : off' = ![0, k.val, 0, j.val]) (inb') (x : S1x1x2x1.Idx) :
    (let b : Vec F S1x40x128 .f32 := View.readAt (Elt F) m.view (Rect.unit (s := S24x40x1024) off ![1, 40, 128] inb).toLoadRect X
     k0_pay17 (k0_pay10 (k0_pay7 b) (k0_pay8 b)) x)
      = G11 (m.view.read (Elt F) X) ((Rect.unit (s := S1x24x2x8) off' ![1, 1, 2, 1] inb').emb x) := by
  rw [readAt_blk m X k j h inb]
  subst h'
  have e3 : ((Rect.unit (s := S1x24x2x8) ![0, k.val, 0, j.val] ![1, 1, 2, 1] inb').emb x 3).val = j.val + (x 3).val := by
    simp
  have e1 : (Rect.unit (s := S1x24x2x8) ![0, k.val, 0, j.val] ![1, 1, 2, 1] inb').emb x 1 = k := by
    ext; simpa using Nat.lt_one_iff.1 (x 1).isLt
  have e2 : (Rect.unit (s := S1x24x2x8) ![0, k.val, 0, j.val] ![1, 1, 2, 1] inb').emb x 2 = x 2 := by
    ext; simp
  unfold G11
  rw [e1, e2, show (Rect.unit (s := S1x24x2x8) ![0, k.val, 0, j.val] ![1, 1, 2, 1] inb').emb x 3 = j from Fin.ext (e3.trans (by simpa using Nat.lt_one_iff.1 (x 3).isLt))]
  exact congrArg (k0_pay17 (k0_pay10 (k0_pay7 _) (k0_pay8 _))) (idx4' (n := 2) x)

theorem ok13_0 (m : Memref sig .tc .vmem S24x40x1024 .f32) (X : BufTy.Contents (Elt F) m.view.ty)
    (m2 : Memref sig .tc .vmem S1x24x2x1024 .fp8e4m3) (X2 : BufTy.Contents (Elt F) m2.view.ty)
    (m3 : Memref sig .tc .vmem S1x24x2x8 .f32) (X3 : BufTy.Contents (Elt F) m3.view.ty) (k : Fin 24) (j : Fin 8)
    {off : Fin 3 → Nat} (h : off = ![k.val, 0, 128 * j.val]) (inb) {off2 : Fin 4 → Nat} (h2 : off2 = ![0, k.val, 0, 128 * j.val]) (inb2)
    {off3 : Fin 4 → Nat} (h3 : off3 = ![0, k.val, 0, j.val]) (inb3) {off' : Fin 3 → Nat} (h' : off' = ![k.val, 0, 128 * j.val]) (inb')
    (x : S1x40x128.Idx) :
    (let b : Vec F S1x40x128 .f32 := View.readAt (Elt F) m.view (Rect.unit (s := S24x40x1024) off ![1, 40, 128] inb).toLoadRect X
     k0_pay19 (k0_pay10 (k0_pay7 b) (k0_pay8 b)) (k0_pay11 (k0_pay6 b) (k0_pay7 b) (k0_pay8 b))
       (k0_pay14 (View.readAt (Elt F) m2.view (Rect.unit (s := S1x24x2x1024) off2 ![1, 1, 2, 128] inb2).toLoadRect X2))
       (View.readAt (Elt F) m3.view (Rect.unit (s := S1x24x2x8) off3 ![1, 1, 2, 1] inb3).toLoadRect X3) x)
      = G13 (m.view.read (Elt F) X) (m2.view.read (Elt F) X2) (m3.view.read (Elt F) X3)
          ((Rect.unit (s := S24x40x3072) off' ![1, 40, 128] inb').emb x) := by
  rw [readAt_blk m X k j h inb, readAt_scblk m2 X2 k j h2 inb2, readAt_ssblk m3 X3 k j h3 inb3]
  subst h'
  have e2 : ((Rect.unit (s := S24x40x3072) ![k.val, 0, 128 * j.val] ![1, 40, 128] inb').emb x 2).val = 128 * j.val + (x 2).val := by
    simp
  have e0 : (Rect.unit (s := S24x40x3072) ![k.val, 0, 128 * j.val] ![1, 40, 128] inb').emb x 0 = k := by
    ext; simpa using Nat.lt_one_iff.1 (x 0).isLt
  have e1 : (Rect.unit (s := S24x40x3072) ![k.val, 0, 128 * j.val] ![1, 40, 128] inb').emb x 1 = x 1 := by
    ext; simp
  have hx : (x 2).val < 128 := (x 2).isLt
  have hj := j.isLt
  have ec : ((⟨((Rect.unit (s := S24x40x3072) ![k.val, 0, 128 * j.val] ![1, 40, 128] inb').emb x 2).val % 1024,
      Nat.mod_lt _ (by omega)⟩ : Fin 1024)).val = 128 * j.val + (x 2).val := by
    show _ % 1024 = _
    omega
  unfold G13
  rw [if_pos (by omega)]
  rw [e0, e1, jOf_eq _ j (x 2) ec, cOf_eq _ j (x 2) ec]
  exact congrArg (k0_pay19 (k0_pay10 (k0_pay7 _) (k0_pay8 _)) (k0_pay11 (k0_pay6 _) (k0_pay7 _) (k0_pay8 _)) (k0_pay14 _) _) (idx3 (n := 40) (p := 128) x)

theorem ok13_1 (m : Memref sig .tc .vmem S24x40x1024 .f32) (X : BufTy.Contents (Elt F) m.view.ty)
    (m2 : Memref sig .tc .vmem S1x24x2x1024 .fp8e4m3) (X2 : BufTy.Contents (Elt F) m2.view.ty)
    (m3 : Memref sig .tc .vmem S1x24x2x8 .f32) (X3 : BufTy.Contents (Elt F) m3.view.ty) (k : Fin 24) (j : Fin 8)
    {off : Fin 3 → Nat} (h : off = ![k.val, 0, 128 * j.val]) (inb) {off2 : Fin 4 → Nat} (h2 : off2 = ![0, k.val, 0, 128 * j.val]) (inb2)
    {off3 : Fin 4 → Nat} (h3 : off3 = ![0, k.val, 0, j.val]) (inb3) {off' : Fin 3 → Nat} (h' : off' = ![k.val, 0, 128 * j.val + 1024]) (inb')
    (x : S1x40x128.Idx) :
    (let b : Vec F S1x40x128 .f32 := View.readAt (Elt F) m.view (Rect.unit (s := S24x40x1024) off ![1, 40, 128] inb).toLoadRect X
     k0_pay20 (k0_pay10 (k0_pay7 b) (k0_pay8 b)) (k0_pay11 (k0_pay6 b) (k0_pay7 b) (k0_pay8 b))
       (k0_pay14 (View.readAt (Elt F) m2.view (Rect.unit (s := S1x24x2x1024) off2 ![1, 1, 2, 128] inb2).toLoadRect X2))
       (View.readAt (Elt F) m3.view (Rect.unit (s := S1x24x2x8) off3 ![1, 1, 2, 1] inb3).toLoadRect X3) x)
      = G13 (m.view.read (Elt F) X) (m2.view.read (Elt F) X2) (m3.view.read (Elt F) X3)
          ((Rect.unit (s := S24x40x3072) off' ![1, 40, 128] inb').emb x) := by
  rw [readAt_blk m X k j h inb, readAt_scblk m2 X2 k j h2 inb2, readAt_ssblk m3 X3 k j h3 inb3]
  subst h'
  have e2 : ((Rect.unit (s := S24x40x3072) ![k.val, 0, 128 * j.val + 1024] ![1, 40, 128] inb').emb x 2).val = 128 * j.val + 1024 + (x 2).val := by
    simp
  have e0 : (Rect.unit (s := S24x40x3072) ![k.val, 0, 128 * j.val + 1024] ![1, 40, 128] inb').emb x 0 = k := by
    ext; simpa using Nat.lt_one_iff.1 (x 0).isLt
  have e1 : (Rect.unit (s := S24x40x3072) ![k.val, 0, 128 * j.val + 1024] ![1, 40, 128] inb').emb x 1 = x 1 := by
    ext; simp
  have hx : (x 2).val < 128 := (x 2).isLt
  have hj := j.isLt
  have ec : ((⟨((Rect.unit (s := S24x40x3072) ![k.val, 0, 128 * j.val + 1024] ![1, 40, 128] inb').emb x 2).val % 1024,
      Nat.mod_lt _ (by omega)⟩ : Fin 1024)).val = 128 * j.val + (x 2).val := by
    show _ % 1024 = _
    omega
  unfold G13
  rw [if_neg (by omega), if_pos (by omega)]
  rw [e0, e1, jOf_eq _ j (x 2) ec, cOf_eq _ j (x 2) ec]
  exact congrArg (k0_pay20 (k0_pay10 (k0_pay7 _) (k0_pay8 _)) (k0_pay11 (k0_pay6 _) (k0_pay7 _) (k0_pay8 _)) (k0_pay14 _) _) (idx3 (n := 40) (p := 128) x)

theorem ok13_2 (m : Memref sig .tc .vmem S24x40x1024 .f32) (X : BufTy.Contents (Elt F) m.view.ty)
    (m2 : Memref sig .tc .vmem S1x24x2x1024 .fp8e4m3) (X2 : BufTy.Contents (Elt F) m2.view.ty)
    (m3 : Memref sig .tc .vmem S1x24x2x8 .f32) (X3 : BufTy.Contents (Elt F) m3.view.ty) (k : Fin 24) (j : Fin 8)
    {off : Fin 3 → Nat} (h : off = ![k.val, 0, 128 * j.val]) (inb) {off2 : Fin 4 → Nat} (h2 : off2 = ![0, k.val, 0, 128 * j.val]) (inb2)
    {off3 : Fin 4 → Nat} (h3 : off3 = ![0, k.val, 0, j.val]) (inb3) {off' : Fin 3 → Nat} (h' : off' = ![k.val, 0, 128 * j.val + 2048]) (inb')
    (x : S1x40x128.Idx) :
    (let b : Vec F S1x40x128 .f32 := View.readAt (Elt F) m.view (Rect.unit (s := S24x40x1024) off ![1, 40, 128] inb).toLoadRect X
     k0_pay21 (k0_pay10 (k0_pay7 b) (k0_pay8 b)) (k0_pay11 (k0_pay6 b) (k0_pay7 b) (k0_pay8 b))
       (k0_pay14 (View.readAt (Elt F) m2.view (Rect.unit (s := S1x24x2x1024) off2 ![1, 1, 2, 128] inb2).toLoadRect X2))
       (View.readAt (Elt F) m3.view (Rect.unit (s := S1x24x2x8) off3 ![1, 1, 2, 1] inb3).toLoadRect X3) x)
      = G13 (m.view.read (Elt F) X) (m2.view.read (Elt F) X2) (m3.view.read (Elt F) X3)
          ((Rect.unit (s := S24x40x3072) off' ![1, 40, 128] inb').emb x) := by
  rw [readAt_blk m X k j h inb, readAt_scblk m2 X2 k j h2 inb2, readAt_ssblk m3 X3 k j h3 inb3]
  subst h'
  have e2 : ((Rect.unit (s := S24x40x3072) ![k.val, 0, 128 * j.val + 2048] ![1, 40, 128] inb').emb x 2).val = 128 * j.val + 2048 + (x 2).val := by
    simp
  have e0 : (Rect.unit (s := S24x40x3072) ![k.val, 0, 128 * j.val + 2048] ![1, 40, 128] inb').emb x 0 = k := by
    ext; simpa using Nat.lt_one_iff.1 (x 0).isLt
  have e1 : (Rect.unit (s := S24x40x3072) ![k.val, 0, 128 * j.val + 2048] ![1, 40, 128] inb').emb x 1 = x 1 := by
    ext; simp
  have hx : (x 2).val < 128 := (x 2).isLt
  have hj := j.isLt
  have ec : ((⟨((Rect.unit (s := S24x40x3072) ![k.val, 0, 128 * j.val + 2048] ![1, 40, 128] inb').emb x 2).val % 1024,
      Nat.mod_lt _ (by omega)⟩ : Fin 1024)).val = 128 * j.val + (x 2).val := by
    show _ % 1024 = _
    omega
  unfold G13
  rw [if_neg (by omega), if_neg (by omega)]
  rw [e0, e1, jOf_eq _ j (x 2) ec, cOf_eq _ j (x 2) ec]
  exact congrArg (k0_pay21 (k0_pay10 (k0_pay7 _) (k0_pay8 _)) (k0_pay11 (k0_pay6 _) (k0_pay7 _) (k0_pay8 _)) (k0_pay14 _) _) (idx3 (n := 40) (p := 128) x)

/-! ## Coverage -/

/-- A slab of row `k`'s channels `w j … w (j+1)` more on top of the slabs before it. -/
theorem cons4 {T C w : Nat} {e : EltTy} {G : (⟨4, ![1, 24, T, C]⟩ : Shape).Idx → Elt F e} (k j : Nat) {off : Fin 4 → Nat}
    (h : off = ![0, k, 0, w * j]) {inb} {v : (Rect.unit (s := ⟨4, ![1, 24, T, C]⟩) off ![1, 1, T, w] inb).shape.Idx → Elt F e}
    (hv : ∀ x, v x = G ((Rect.unit (s := ⟨4, ![1, 24, T, C]⟩) off ![1, 1, T, w] inb).emb x))
    {L : List (View.Piece (Elt F) ⟨4, ![1, 24, T, C]⟩ e)} (hL : Tiles G (fun y => (y 1).val = k ∧ (y 3).val < w * j) L) :
    Tiles G (fun y => (y 1).val = k ∧ (y 3).val < w * (j + 1)) (⟨Rect.unit (s := ⟨4, ![1, 24, T, C]⟩) off ![1, 1, T, w] inb, v⟩ :: L) := by
  refine Tiles.cons hv hL fun y ⟨h1, h3⟩ => ?_
  by_cases hlt : (y 3).val < w * j
  · exact Or.inr ⟨h1, hlt⟩
  · refine Or.inl (Rect.mem_set_unit.2 ?_)
    subst h
    have hy2 : (y 2).val < T := (y 2).isLt
    have hy0 : (y 0).val < 1 := (y 0).isLt
    rw [Nat.mul_add, Nat.mul_one] at h3
    intro a
    fin_cases a
    · exact ⟨Nat.zero_le _, by show (y 0).val < 0 + 1; omega⟩
    · exact ⟨by show k ≤ (y 1).val; omega, by show (y 1).val < k + 1; omega⟩
    · exact ⟨Nat.zero_le _, by show (y 2).val < 0 + T; omega⟩
    · exact ⟨by show w * j ≤ (y 3).val; omega, by show (y 3).val < w * j + w; omega⟩

/-- The three slabs of block `j` more on top of the blocks before it. -/
theorem cons13 {e : EltTy} {G : S24x40x3072.Idx → Elt F e} (k j : Nat) (hj : j < 8) {o0 o1 o2 : Fin 3 → Nat}
    (h0 : o0 = ![k, 0, 128 * j]) (h1 : o1 = ![k, 0, 128 * j + 1024]) (h2 : o2 = ![k, 0, 128 * j + 2048]) {i0 i1 i2}
    {v0 : (Rect.unit (s := S24x40x3072) o0 ![1, 40, 128] i0).shape.Idx → Elt F e}
    {v1 : (Rect.unit (s := S24x40x3072) o1 ![1, 40, 128] i1).shape.Idx → Elt F e}
    {v2 : (Rect.unit (s := S24x40x3072) o2 ![1, 40, 128] i2).shape.Idx → Elt F e}
    (hv0 : ∀ x, v0 x = G ((Rect.unit (s := S24x40x3072) o0 ![1, 40, 128] i0).emb x))
    (hv1 : ∀ x, v1 x = G ((Rect.unit (s := S24x40x3072) o1 ![1, 40, 128] i1).emb x))
    (hv2 : ∀ x, v2 x = G ((Rect.unit (s := S24x40x3072) o2 ![1, 40, 128] i2).emb x))
    {L : List (View.Piece (Elt F) S24x40x3072 e)} (hL : Tiles G (fun y => (y 0).val = k ∧ (y 2).val % 1024 < 128 * j) L) :
    Tiles G (fun y => (y 0).val = k ∧ (y 2).val % 1024 < 128 * (j + 1))
      (⟨Rect.unit (s := S24x40x3072) o2 ![1, 40, 128] i2, v2⟩ :: ⟨Rect.unit (s := S24x40x3072) o1 ![1, 40, 128] i1, v1⟩
        :: ⟨Rect.unit (s := S24x40x3072) o0 ![1, 40, 128] i0, v0⟩ :: L) := by
  have mem : ∀ (y : S24x40x3072.Idx) {o : Fin 3 → Nat} (q : Nat) (i) (_ : o = ![k, 0, q]), (y 0).val = k → q ≤ (y 2).val → (y 2).val < q + 128 →
      y ∈ (Rect.unit (s := S24x40x3072) o ![1, 40, 128] i).set := by
    rintro y o q i rfl hk hl hh
    refine Rect.mem_set_unit.2 fun a => ?_
    have hy1 : (y 1).val < 40 := (y 1).isLt
    fin_cases a
    · exact ⟨by show k ≤ (y 0).val; omega, by show (y 0).val < k + 1; omega⟩
    · exact ⟨Nat.zero_le _, by show (y 1).val < 0 + 40; omega⟩
    · exact ⟨hl, hh⟩
  refine Tiles.cons (P := fun y => (y 0).val = k ∧ (y 2).val % 1024 < 128 * (j + 1) ∧ ((y 2).val % 1024 < 128 * j ∨ (y 2).val < 2048)) hv2
    (Tiles.cons (P := fun y => (y 0).val = k ∧ (y 2).val % 1024 < 128 * (j + 1) ∧ ((y 2).val % 1024 < 128 * j ∨ (y 2).val < 1024)) hv1
      (Tiles.cons hv0 hL fun y ⟨a, b, d⟩ => ?_) fun y ⟨a, b, d⟩ => ?_) fun y ⟨a, b⟩ => ?_
  · by_cases c : (y 2).val % 1024 < 128 * j
    · exact Or.inr ⟨a, c⟩
    · exact Or.inl (mem y _ i0 h0 a (by omega) (by omega))
  · by_cases c : (y 2).val % 1024 < 128 * j ∨ (y 2).val < 1024
    · exact Or.inr ⟨a, b, c⟩
    · exact Or.inl (mem y _ i1 h1 a (by omega) (by omega))
  · by_cases c : (y 2).val % 1024 < 128 * j ∨ (y 2).val < 2048
    · exact Or.inr ⟨a, b, c⟩
    · have hy : (y 2).val < 3072 := (y 2).isLt
      exact Or.inl (mem y _ i2 h2 a (by omega) (by omega))

/-! ## The second loop -/

/-- Two rows of the three-rows-side-by-side buffer. -/
def pblk (p : Vec F S24x40x3072 .bf16) (k : Fin 12) : Vec F S2x40x3072 .bf16 :=
  fun x => p (ix3 ⟨2 * k.val + (x 0).val, by have := (x 0).isLt; have : (x 0).val < 2 := this; omega⟩ (x 1) (x 2))

theorem readAt_pblk (m : Memref sig .tc .vmem S24x40x3072 .bf16) (X : BufTy.Contents (Elt F) m.view.ty) (k : Fin 12)
    {off : Fin 3 → Nat} (h : off = ![2 * k.val, 0, 0]) (inb) :
    View.readAt (Elt F) m.view (Rect.unit (s := S24x40x3072) off ![2, 40, 3072] inb).toLoadRect X
      = pblk (m.view.read (Elt F) X) k := by
  subst h
  rw [View.readAt_unit m.view X inb rfl inb]
  funext x
  unfold VecWindow.window pblk
  congr 1
  funext d
  fin_cases d <;> ext <;> simp [ix3]

theorem readAt_w (m : Memref sig .tc .vmem S1x3x1024x1024 .fp8e4m3) (X : BufTy.Contents (Elt F) m.view.ty) (inb) :
    View.readAt (Elt F) m.view (Rect.unit (s := S1x3x1024x1024) ![0, 0, 0, 0] ![1, 3, 1024, 1024] inb).toLoadRect X
      = m.view.read (Elt F) X := by
  rw [View.readAt_unit m.view X inb rfl inb]
  funext x
  unfold VecWindow.window
  congr 1
  funext d
  fin_cases d <;> ext <;> simp

/-- The pair of an index along the rows, and its place in the pair. -/
def kOf (r : Fin 24) : Fin 12 := ⟨r.val / 2, by have := r.isLt; omega⟩
def rOf (r : Fin 24) : Fin 2 := ⟨r.val % 2, Nat.mod_lt _ (by omega)⟩

theorem kOf_eq (r : Fin 24) (k : Fin 12) (x : Fin 2) (h : r.val = 2 * k.val + x.val) : kOf r = k := by
  ext; have := x.isLt; simp only [kOf]; omega
theorem rOf_eq (r : Fin 24) (k : Fin 12) (x : Fin 2) (h : r.val = 2 * k.val + x.val) : rOf r = x := by
  ext; have := x.isLt; simp only [rOf]; omega

/-- The activations the second loop writes. -/
def G12 (v5 v7 : Vec F S1x1024 .f32) (p : Vec F S24x40x3072 .bf16) (w : Vec F S1x3x1024x1024 .fp8e4m3) :
    Vec F S24x40x1024 .f32 := fun y => k0_pay4 v5 v7 (pblk p (kOf (y 0))) w (ix3 (rOf (y 0)) (y 1) (y 2))

/-- The result the second loop writes at the last layer. -/
def G7 (v5 v7 : Vec F S1x1024 .f32) (p : Vec F S24x40x3072 .bf16) (w : Vec F S1x3x1024x1024 .fp8e4m3) :
    Vec F S24x40x1024 .bf16 := fun y => k0_pay5 v5 v7 (pblk p (kOf (y 0))) w (ix3 (rOf (y 0)) (y 1) (y 2))

theorem ok12 (v5 v7 : Vec F S1x1024 .f32) (m : Memref sig .tc .vmem S24x40x3072 .bf16) (X : BufTy.Contents (Elt F) m.view.ty)
    (m4 : Memref sig .tc .vmem S1x3x1024x1024 .fp8e4m3) (X4 : BufTy.Contents (Elt F) m4.view.ty) (k : Fin 12)
    {off : Fin 3 → Nat} (h : off = ![2 * k.val, 0, 0]) (inb) (inb4) {off' : Fin 3 → Nat} (h' : off' = ![2 * k.val, 0, 0]) (inb')
    (x : S2x40x1024.Idx) :
    k0_pay4 v5 v7 (View.readAt (Elt F) m.view (Rect.unit (s := S24x40x3072) off ![2, 40, 3072] inb).toLoadRect X)
        (View.readAt (Elt F) m4.view (Rect.unit (s := S1x3x1024x1024) ![0, 0, 0, 0] ![1, 3, 1024, 1024] inb4).toLoadRect X4) x
      = G12 v5 v7 (m.view.read (Elt F) X) (m4.view.read (Elt F) X4)
          ((Rect.unit (s := S24x40x1024) off' ![2, 40, 1024] inb').emb x) := by
  rw [readAt_pblk m X k h inb, readAt_w m4 X4 inb4]
  subst h'
  have e0 : ((Rect.unit (s := S24x40x1024) ![2 * k.val, 0, 0] ![2, 40, 1024] inb').emb x 0).val = 2 * k.val + (x 0).val := by
    simp
  have e1 : (Rect.unit (s := S24x40x1024) ![2 * k.val, 0, 0] ![2, 40, 1024] inb').emb x 1 = x 1 := by
    ext; simp
  have e2 : (Rect.unit (s := S24x40x1024) ![2 * k.val, 0, 0] ![2, 40, 1024] inb').emb x 2 = x 2 := by
    ext; simp
  unfold G12
  rw [e1, e2, kOf_eq _ k (x 0) e0, rOf_eq _ k (x 0) e0]
  exact congrArg (k0_pay4 v5 v7 _ _) (eq_ix3 (n0 := 2) (n1 := 40) (n2 := 1024) x)

theorem ok7 (v5 v7 : Vec F S1x1024 .f32) (m : Memref sig .tc .vmem S24x40x3072 .bf16) (X : BufTy.Contents (Elt F) m.view.ty)
    (m4 : Memref sig .tc .vmem S1x3x1024x1024 .fp8e4m3) (X4 : BufTy.Contents (Elt F) m4.view.ty) (k : Fin 12)
    {off : Fin 3 → Nat} (h : off = ![2 * k.val, 0, 0]) (inb) (inb4) {off' : Fin 3 → Nat} (h' : off' = ![2 * k.val, 0, 0]) (inb')
    (x : S2x40x1024.Idx) :
    k0_pay5 v5 v7 (View.readAt (Elt F) m.view (Rect.unit (s := S24x40x3072) off ![2, 40, 3072] inb).toLoadRect X)
        (View.readAt (Elt F) m4.view (Rect.unit (s := S1x3x1024x1024) ![0, 0, 0, 0] ![1, 3, 1024, 1024] inb4).toLoadRect X4) x
      = G7 v5 v7 (m.view.read (Elt F) X) (m4.view.read (Elt F) X4)
          ((Rect.unit (s := S24x40x1024) off' ![2, 40, 1024] inb').emb x) := by
  rw [readAt_pblk m X k h inb, readAt_w m4 X4 inb4]
  subst h'
  have e0 : ((Rect.unit (s := S24x40x1024) ![2 * k.val, 0, 0] ![2, 40, 1024] inb').emb x 0).val = 2 * k.val + (x 0).val := by
    simp
  have e1 : (Rect.unit (s := S24x40x1024) ![2 * k.val, 0, 0] ![2, 40, 1024] inb').emb x 1 = x 1 := by
    ext; simp
  have e2 : (Rect.unit (s := S24x40x1024) ![2 * k.val, 0, 0] ![2, 40, 1024] inb').emb x 2 = x 2 := by
    ext; simp
  unfold G7
  rw [e1, e2, kOf_eq _ k (x 0) e0, rOf_eq _ k (x 0) e0]
  exact congrArg (k0_pay5 v5 v7 _ _) (eq_ix3 (n0 := 2) (n1 := 40) (n2 := 1024) x)

/-- A slab of two rows more on top of the rows before it. -/
theorem cons12 {e : EltTy} {G : S24x40x1024.Idx → Elt F e} (k : Nat) {off : Fin 3 → Nat}
    (h : off = ![2 * k, 0, 0]) {inb} {v : (Rect.unit (s := S24x40x1024) off ![2, 40, 1024] inb).shape.Idx → Elt F e}
    (hv : ∀ x, v x = G ((Rect.unit (s := S24x40x1024) off ![2, 40, 1024] inb).emb x))
    {L : List (View.Piece (Elt F) S24x40x1024 e)} (hL : Tiles G (fun y => (y 0).val < 2 * k) L) :
    Tiles G (fun y => (y 0).val < 2 * (k + 1)) (⟨Rect.unit (s := S24x40x1024) off ![2, 40, 1024] inb, v⟩ :: L) := by
  refine Tiles.cons hv hL fun y h3 => ?_
  by_cases hlt : (y 0).val < 2 * k
  · exact Or.inr hlt
  · refine Or.inl (Rect.mem_set_unit.2 ?_)
    subst h
    have hy1 : (y 1).val < 40 := (y 1).isLt
    have hy2 : (y 2).val < 1024 := (y 2).isLt
    intro a
    fin_cases a
    · exact ⟨by show 2 * k ≤ (y 0).val; omega, by show (y 0).val < 2 * k + 2; omega⟩
    · exact ⟨Nat.zero_le _, by show (y 1).val < 0 + 40; omega⟩
    · exact ⟨Nat.zero_le _, by show (y 2).val < 0 + 1024; omega⟩

end Cert.KernelIdeal.Value
-- ==== Proof.PI.Trips.lean ====
module

public import proofs.«01_k».proof.Proof.PI.Blocks

/-!
The pieces of each trip of the kernel's two loops, and of all trips together: they lie on the functions of Blocks.lean
and cover their buffers.
-/

@[expose] public section

noncomputable section

namespace Cert.KernelIdeal.Value

open Cert.KernelIdeal Cert.KernelIdeal.Gen
open Idealize.ShloMosaic Idealize.ShloMosaic.TcCoe Idealize.ShloMosaic.Tactic

variable {F : FTy → Type} [FloatOps F]

theorem trips1 : k0_t1_loop.trips = 24 := by decide +kernel
theorem trips2 : k0_t2_loop.trips = 12 := by decide +kernel

variable (𝒱 : Variants) (bd : Option 𝒱.V) (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole)
  (X2 : BufTy.Contents (Elt F) arg2.view.ty) (X3 : BufTy.Contents (Elt F) arg3.view.ty) (X4 : BufTy.Contents (Elt F) arg4.view.ty)
  (X12 : BufTy.Contents (Elt F) arg12.view.ty) (X13 : BufTy.Contents (Elt F) arg13.view.ty) (v5 v7 : Vec F S1x1024 .f32)

set_option maxRecDepth 16384 in
set_option maxHeartbeats 1000000 in
/-- One trip of the first loop fills row `k` of the codes. -/
theorem trip8 (k : Fin k0_t1_loop.trips) :
    Tiles (G8 (arg12.view.read (Elt F) X12)) (fun y => (y 1).val = k.val ∧ (y 3).val < 128 * (7 + 1))
      (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 k).1 := by
  have hk : k.val < 24 := Nat.lt_of_lt_of_le k.isLt k0_t1_abs.2.1
  unfold trip_k0_t1; dsimp only
  refine cons4 (T := 40) (C := 1024) (w := 128) k.val 7 (k0_off58_eq k) (fun x => ok8 arg12 X12 ⟨k.val, hk⟩ 7 (k0_off57_eq k) _ (k0_off58_eq k) _ x) ?_
  refine cons4 (T := 40) (C := 1024) (w := 128) k.val 6 (k0_off50_eq k) (fun x => ok8 arg12 X12 ⟨k.val, hk⟩ 6 (k0_off49_eq k) _ (k0_off50_eq k) _ x) ?_
  refine cons4 (T := 40) (C := 1024) (w := 128) k.val 5 (k0_off42_eq k) (fun x => ok8 arg12 X12 ⟨k.val, hk⟩ 5 (k0_off41_eq k) _ (k0_off42_eq k) _ x) ?_
  refine cons4 (T := 40) (C := 1024) (w := 128) k.val 4 (k0_off34_eq k) (fun x => ok8 arg12 X12 ⟨k.val, hk⟩ 4 (k0_off33_eq k) _ (k0_off34_eq k) _ x) ?_
  refine cons4 (T := 40) (C := 1024) (w := 128) k.val 3 (k0_off26_eq k) (fun x => ok8 arg12 X12 ⟨k.val, hk⟩ 3 (k0_off25_eq k) _ (k0_off26_eq k) _ x) ?_
  refine cons4 (T := 40) (C := 1024) (w := 128) k.val 2 (k0_off18_eq k) (fun x => ok8 arg12 X12 ⟨k.val, hk⟩ 2 (k0_off17_eq k) _ (k0_off18_eq k) _ x) ?_
  refine cons4 (T := 40) (C := 1024) (w := 128) k.val 1 (k0_off10_eq k) (fun x => ok8 arg12 X12 ⟨k.val, hk⟩ 1 (k0_off9_eq k) _ (k0_off10_eq k) _ x) ?_
  refine cons4 (T := 40) (C := 1024) (w := 128) k.val 0 (k0_off2_eq k) (fun x => ok8 arg12 X12 ⟨k.val, hk⟩ 0 (k0_off1_eq k) _ (k0_off2_eq k) _ x) ?_
  exact Tiles.nil _ _ fun y h => by have := h.2; omega

set_option maxRecDepth 16384 in
set_option maxHeartbeats 1000000 in
/-- One trip of the first loop fills row `k` of the scales. -/
theorem trip9 (k : Fin k0_t1_loop.trips) :
    Tiles (G9 (arg12.view.read (Elt F) X12)) (fun y => (y 1).val = k.val ∧ (y 3).val < 1 * (7 + 1))
      (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 k).2.1 := by
  have hk : k.val < 24 := Nat.lt_of_lt_of_le k.isLt k0_t1_abs.2.1
  unfold trip_k0_t1; dsimp only
  refine cons4 (T := 40) (C := 8) (w := 1) k.val 7 (k0_off59_eq k) (fun x => ok9 arg12 X12 ⟨k.val, hk⟩ 7 (k0_off57_eq k) _ (k0_off59_eq k) _ x) ?_
  refine cons4 (T := 40) (C := 8) (w := 1) k.val 6 (k0_off51_eq k) (fun x => ok9 arg12 X12 ⟨k.val, hk⟩ 6 (k0_off49_eq k) _ (k0_off51_eq k) _ x) ?_
  refine cons4 (T := 40) (C := 8) (w := 1) k.val 5 (k0_off43_eq k) (fun x => ok9 arg12 X12 ⟨k.val, hk⟩ 5 (k0_off41_eq k) _ (k0_off43_eq k) _ x) ?_
  refine cons4 (T := 40) (C := 8) (w := 1) k.val 4 (k0_off35_eq k) (fun x => ok9 arg12 X12 ⟨k.val, hk⟩ 4 (k0_off33_eq k) _ (k0_off35_eq k) _ x) ?_
  refine cons4 (T := 40) (C := 8) (w := 1) k.val 3 (k0_off27_eq k) (fun x => ok9 arg12 X12 ⟨k.val, hk⟩ 3 (k0_off25_eq k) _ (k0_off27_eq k) _ x) ?_
  refine cons4 (T := 40) (C := 8) (w := 1) k.val 2 (k0_off19_eq k) (fun x => ok9 arg12 X12 ⟨k.val, hk⟩ 2 (k0_off17_eq k) _ (k0_off19_eq k) _ x) ?_
  refine cons4 (T := 40) (C := 8) (w := 1) k.val 1 (k0_off11_eq k) (fun x => ok9 arg12 X12 ⟨k.val, hk⟩ 1 (k0_off9_eq k) _ (k0_off11_eq k) _ x) ?_
  refine cons4 (T := 40) (C := 8) (w := 1) k.val 0 (k0_off3_eq k) (fun x => ok9 arg12 X12 ⟨k.val, hk⟩ 0 (k0_off1_eq k) _ (k0_off3_eq k) _ x) ?_
  exact Tiles.nil _ _ fun y h => by have := h.2; omega

set_option maxRecDepth 16384 in
set_option maxHeartbeats 1000000 in
/-- One trip of the first loop fills row `k` of the next state's codes. -/
theorem trip10 (k : Fin k0_t1_loop.trips) :
    Tiles (G10 (arg12.view.read (Elt F) X12)) (fun y => (y 1).val = k.val ∧ (y 3).val < 128 * (7 + 1))
      (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 k).2.2.1 := by
  have hk : k.val < 24 := Nat.lt_of_lt_of_le k.isLt k0_t1_abs.2.1
  unfold trip_k0_t1; dsimp only
  refine cons4 (T := 2) (C := 1024) (w := 128) k.val 7 (k0_off60_eq k) (fun x => ok10 arg12 X12 ⟨k.val, hk⟩ 7 (k0_off57_eq k) _ (k0_off60_eq k) _ x) ?_
  refine cons4 (T := 2) (C := 1024) (w := 128) k.val 6 (k0_off52_eq k) (fun x => ok10 arg12 X12 ⟨k.val, hk⟩ 6 (k0_off49_eq k) _ (k0_off52_eq k) _ x) ?_
  refine cons4 (T := 2) (C := 1024) (w := 128) k.val 5 (k0_off44_eq k) (fun x => ok10 arg12 X12 ⟨k.val, hk⟩ 5 (k0_off41_eq k) _ (k0_off44_eq k) _ x) ?_
  refine cons4 (T := 2) (C := 1024) (w := 128) k.val 4 (k0_off36_eq k) (fun x => ok10 arg12 X12 ⟨k.val, hk⟩ 4 (k0_off33_eq k) _ (k0_off36_eq k) _ x) ?_
  refine cons4 (T := 2) (C := 1024) (w := 128) k.val 3 (k0_off28_eq k) (fun x => ok10 arg12 X12 ⟨k.val, hk⟩ 3 (k0_off25_eq k) _ (k0_off28_eq k) _ x) ?_
  refine cons4 (T := 2) (C := 1024) (w := 128) k.val 2 (k0_off20_eq k) (fun x => ok10 arg12 X12 ⟨k.val, hk⟩ 2 (k0_off17_eq k) _ (k0_off20_eq k) _ x) ?_
  refine cons4 (T := 2) (C := 1024) (w := 128) k.val 1 (k0_off12_eq k) (fun x => ok10 arg12 X12 ⟨k.val, hk⟩ 1 (k0_off9_eq k) _ (k0_off12_eq k) _ x) ?_
  refine cons4 (T := 2) (C := 1024) (w := 128) k.val 0 (k0_off4_eq k) (fun x => ok10 arg12 X12 ⟨k.val, hk⟩ 0 (k0_off1_eq k) _ (k0_off4_eq k) _ x) ?_
  exact Tiles.nil _ _ fun y h => by have := h.2; omega

set_option maxRecDepth 16384 in
set_option maxHeartbeats 1000000 in
/-- One trip of the first loop fills row `k` of the next state's scales. -/
theorem trip11 (k : Fin k0_t1_loop.trips) :
    Tiles (G11 (arg12.view.read (Elt F) X12)) (fun y => (y 1).val = k.val ∧ (y 3).val < 1 * (7 + 1))
      (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 k).2.2.2.1 := by
  have hk : k.val < 24 := Nat.lt_of_lt_of_le k.isLt k0_t1_abs.2.1
  unfold trip_k0_t1; dsimp only
  refine cons4 (T := 2) (C := 8) (w := 1) k.val 7 (k0_off61_eq k) (fun x => ok11 arg12 X12 ⟨k.val, hk⟩ 7 (k0_off57_eq k) _ (k0_off61_eq k) _ x) ?_
  refine cons4 (T := 2) (C := 8) (w := 1) k.val 6 (k0_off53_eq k) (fun x => ok11 arg12 X12 ⟨k.val, hk⟩ 6 (k0_off49_eq k) _ (k0_off53_eq k) _ x) ?_
  refine cons4 (T := 2) (C := 8) (w := 1) k.val 5 (k0_off45_eq k) (fun x => ok11 arg12 X12 ⟨k.val, hk⟩ 5 (k0_off41_eq k) _ (k0_off45_eq k) _ x) ?_
  refine cons4 (T := 2) (C := 8) (w := 1) k.val 4 (k0_off37_eq k) (fun x => ok11 arg12 X12 ⟨k.val, hk⟩ 4 (k0_off33_eq k) _ (k0_off37_eq k) _ x) ?_
  refine cons4 (T := 2) (C := 8) (w := 1) k.val 3 (k0_off29_eq k) (fun x => ok11 arg12 X12 ⟨k.val, hk⟩ 3 (k0_off25_eq k) _ (k0_off29_eq k) _ x) ?_
  refine cons4 (T := 2) (C := 8) (w := 1) k.val 2 (k0_off21_eq k) (fun x => ok11 arg12 X12 ⟨k.val, hk⟩ 2 (k0_off17_eq k) _ (k0_off21_eq k) _ x) ?_
  refine cons4 (T := 2) (C := 8) (w := 1) k.val 1 (k0_off13_eq k) (fun x => ok11 arg12 X12 ⟨k.val, hk⟩ 1 (k0_off9_eq k) _ (k0_off13_eq k) _ x) ?_
  refine cons4 (T := 2) (C := 8) (w := 1) k.val 0 (k0_off5_eq k) (fun x => ok11 arg12 X12 ⟨k.val, hk⟩ 0 (k0_off1_eq k) _ (k0_off5_eq k) _ x) ?_
  exact Tiles.nil _ _ fun y h => by have := h.2; omega

set_option maxRecDepth 16384 in
set_option maxHeartbeats 1000000 in
/-- One trip of the first loop fills row `k` of the three rows side by side. -/
theorem trip13 (k : Fin k0_t1_loop.trips) :
    Tiles (G13 (arg12.view.read (Elt F) X12) (arg2.view.read (Elt F) X2) (arg3.view.read (Elt F) X3))
      (fun y => (y 0).val = k.val ∧ (y 2).val % 1024 < 128 * (7 + 1))
      (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 k).2.2.2.2.1 := by
  have hk : k.val < 24 := Nat.lt_of_lt_of_le k.isLt k0_t1_abs.2.1
  unfold trip_k0_t1; dsimp only
  refine cons13 k.val 7 (by omega) (k0_off62_eq k) (k0_off63_eq k) (k0_off64_eq k)
    (fun x => ok13_0 arg12 X12 arg2 X2 arg3 X3 ⟨k.val, hk⟩ 7 (k0_off57_eq k) _ (k0_off60_eq k) _ (k0_off61_eq k) _ (k0_off62_eq k) _ x)
    (fun x => ok13_1 arg12 X12 arg2 X2 arg3 X3 ⟨k.val, hk⟩ 7 (k0_off57_eq k) _ (k0_off60_eq k) _ (k0_off61_eq k) _ (k0_off63_eq k) _ x)
    (fun x => ok13_2 arg12 X12 arg2 X2 arg3 X3 ⟨k.val, hk⟩ 7 (k0_off57_eq k) _ (k0_off60_eq k) _ (k0_off61_eq k) _ (k0_off64_eq k) _ x) ?_
  refine cons13 k.val 6 (by omega) (k0_off54_eq k) (k0_off55_eq k) (k0_off56_eq k)
    (fun x => ok13_0 arg12 X12 arg2 X2 arg3 X3 ⟨k.val, hk⟩ 6 (k0_off49_eq k) _ (k0_off52_eq k) _ (k0_off53_eq k) _ (k0_off54_eq k) _ x)
    (fun x => ok13_1 arg12 X12 arg2 X2 arg3 X3 ⟨k.val, hk⟩ 6 (k0_off49_eq k) _ (k0_off52_eq k) _ (k0_off53_eq k) _ (k0_off55_eq k) _ x)
    (fun x => ok13_2 arg12 X12 arg2 X2 arg3 X3 ⟨k.val, hk⟩ 6 (k0_off49_eq k) _ (k0_off52_eq k) _ (k0_off53_eq k) _ (k0_off56_eq k) _ x) ?_
  refine cons13 k.val 5 (by omega) (k0_off46_eq k) (k0_off47_eq k) (k0_off48_eq k)
    (fun x => ok13_0 arg12 X12 arg2 X2 arg3 X3 ⟨k.val, hk⟩ 5 (k0_off41_eq k) _ (k0_off44_eq k) _ (k0_off45_eq k) _ (k0_off46_eq k) _ x)
    (fun x => ok13_1 arg12 X12 arg2 X2 arg3 X3 ⟨k.val, hk⟩ 5 (k0_off41_eq k) _ (k0_off44_eq k) _ (k0_off45_eq k) _ (k0_off47_eq k) _ x)
    (fun x => ok13_2 arg12 X12 arg2 X2 arg3 X3 ⟨k.val, hk⟩ 5 (k0_off41_eq k) _ (k0_off44_eq k) _ (k0_off45_eq k) _ (k0_off48_eq k) _ x) ?_
  refine cons13 k.val 4 (by omega) (k0_off38_eq k) (k0_off39_eq k) (k0_off40_eq k)
    (fun x => ok13_0 arg12 X12 arg2 X2 arg3 X3 ⟨k.val, hk⟩ 4 (k0_off33_eq k) _ (k0_off36_eq k) _ (k0_off37_eq k) _ (k0_off38_eq k) _ x)
    (fun x => ok13_1 arg12 X12 arg2 X2 arg3 X3 ⟨k.val, hk⟩ 4 (k0_off33_eq k) _ (k0_off36_eq k) _ (k0_off37_eq k) _ (k0_off39_eq k) _ x)
    (fun x => ok13_2 arg12 X12 arg2 X2 arg3 X3 ⟨k.val, hk⟩ 4 (k0_off33_eq k) _ (k0_off36_eq k) _ (k0_off37_eq k) _ (k0_off40_eq k) _ x) ?_
  refine cons13 k.val 3 (by omega) (k0_off30_eq k) (k0_off31_eq k) (k0_off32_eq k)
    (fun x => ok13_0 arg12 X12 arg2 X2 arg3 X3 ⟨k.val, hk⟩ 3 (k0_off25_eq k) _ (k0_off28_eq k) _ (k0_off29_eq k) _ (k0_off30_eq k) _ x)
    (fun x => ok13_1 arg12 X12 arg2 X2 arg3 X3 ⟨k.val, hk⟩ 3 (k0_off25_eq k) _ (k0_off28_eq k) _ (k0_off29_eq k) _ (k0_off31_eq k) _ x)
    (fun x => ok13_2 arg12 X12 arg2 X2 arg3 X3 ⟨k.val, hk⟩ 3 (k0_off25_eq k) _ (k0_off28_eq k) _ (k0_off29_eq k) _ (k0_off32_eq k) _ x) ?_
  refine cons13 k.val 2 (by omega) (k0_off22_eq k) (k0_off23_eq k) (k0_off24_eq k)
    (fun x => ok13_0 arg12 X12 arg2 X2 arg3 X3 ⟨k.val, hk⟩ 2 (k0_off17_eq k) _ (k0_off20_eq k) _ (k0_off21_eq k) _ (k0_off22_eq k) _ x)
    (fun x => ok13_1 arg12 X12 arg2 X2 arg3 X3 ⟨k.val, hk⟩ 2 (k0_off17_eq k) _ (k0_off20_eq k) _ (k0_off21_eq k) _ (k0_off23_eq k) _ x)
    (fun x => ok13_2 arg12 X12 arg2 X2 arg3 X3 ⟨k.val, hk⟩ 2 (k0_off17_eq k) _ (k0_off20_eq k) _ (k0_off21_eq k) _ (k0_off24_eq k) _ x) ?_
  refine cons13 k.val 1 (by omega) (k0_off14_eq k) (k0_off15_eq k) (k0_off16_eq k)
    (fun x => ok13_0 arg12 X12 arg2 X2 arg3 X3 ⟨k.val, hk⟩ 1 (k0_off9_eq k) _ (k0_off12_eq k) _ (k0_off13_eq k) _ (k0_off14_eq k) _ x)
    (fun x => ok13_1 arg12 X12 arg2 X2 arg3 X3 ⟨k.val, hk⟩ 1 (k0_off9_eq k) _ (k0_off12_eq k) _ (k0_off13_eq k) _ (k0_off15_eq k) _ x)
    (fun x => ok13_2 arg12 X12 arg2 X2 arg3 X3 ⟨k.val, hk⟩ 1 (k0_off9_eq k) _ (k0_off12_eq k) _ (k0_off13_eq k) _ (k0_off16_eq k) _ x) ?_
  refine cons13 k.val 0 (by omega) (k0_off6_eq k) (k0_off7_eq k) (k0_off8_eq k)
    (fun x => ok13_0 arg12 X12 arg2 X2 arg3 X3 ⟨k.val, hk⟩ 0 (k0_off1_eq k) _ (k0_off4_eq k) _ (k0_off5_eq k) _ (k0_off6_eq k) _ x)
    (fun x => ok13_1 arg12 X12 arg2 X2 arg3 X3 ⟨k.val, hk⟩ 0 (k0_off1_eq k) _ (k0_off4_eq k) _ (k0_off5_eq k) _ (k0_off7_eq k) _ x)
    (fun x => ok13_2 arg12 X12 arg2 X2 arg3 X3 ⟨k.val, hk⟩ 0 (k0_off1_eq k) _ (k0_off4_eq k) _ (k0_off5_eq k) _ (k0_off8_eq k) _ x) ?_
  exact Tiles.nil _ _ fun y h => by have := h.2; omega

/-- All trips of the first loop before `n`. -/
theorem pb1 (n : Nat) (hn : n ≤ 24) :
    Tiles (G8 (arg12.view.read (Elt F) X12)) (fun y => (y 1).val < n) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 n).1
    ∧ Tiles (G9 (arg12.view.read (Elt F) X12)) (fun y => (y 1).val < n) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 n).2.1
    ∧ Tiles (G10 (arg12.view.read (Elt F) X12)) (fun y => (y 1).val < n) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 n).2.2.1
    ∧ Tiles (G11 (arg12.view.read (Elt F) X12)) (fun y => (y 1).val < n) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 n).2.2.2.1
    ∧ Tiles (G13 (arg12.view.read (Elt F) X12) (arg2.view.read (Elt F) X2) (arg3.view.read (Elt F) X3)) (fun y => (y 0).val < n) (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 n).2.2.2.2 := by
  induction n with
  | zero =>
    rw [pb_k0_t1.eq_1]
    exact ⟨Tiles.nil _ _ fun y => Nat.not_lt_zero _, Tiles.nil _ _ fun y => Nat.not_lt_zero _, Tiles.nil _ _ fun y => Nat.not_lt_zero _,
      Tiles.nil _ _ fun y => Nat.not_lt_zero _, Tiles.nil _ _ fun y => Nat.not_lt_zero _⟩
  | succ n ih =>
    obtain ⟨h8, h9, h10, h11, h13⟩ := ih (by omega)
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 X2 X3 X12 (⟨n, by rw [trips1]; omega⟩ : Fin k0_t1_loop.trips)]
    refine ⟨Tiles.append (trip8 𝒱 bd c i arg1 harg1 arg2 harg2 arg3 harg3 arg4 harg4 arg5 harg5 arg6 harg6 arg7 harg7 arg8 harg8 arg9 harg9 arg10 harg10 arg11 harg11 arg12 harg12 arg13 harg13 X2 X3 X12 ⟨n, _⟩) h8 fun y hy => ?_,
      Tiles.append (trip9 𝒱 bd c i arg1 harg1 arg2 harg2 arg3 harg3 arg4 harg4 arg5 harg5 arg6 harg6 arg7 harg7 arg8 harg8 arg9 harg9 arg10 harg10 arg11 harg11 arg12 harg12 arg13 harg13 X2 X3 X12 ⟨n, _⟩) h9 fun y hy => ?_,
      Tiles.append (trip10 𝒱 bd c i arg1 harg1 arg2 harg2 arg3 harg3 arg4 harg4 arg5 harg5 arg6 harg6 arg7 harg7 arg8 harg8 arg9 harg9 arg10 harg10 arg11 harg11 arg12 harg12 arg13 harg13 X2 X3 X12 ⟨n, _⟩) h10 fun y hy => ?_,
      Tiles.append (trip11 𝒱 bd c i arg1 harg1 arg2 harg2 arg3 harg3 arg4 harg4 arg5 harg5 arg6 harg6 arg7 harg7 arg8 harg8 arg9 harg9 arg10 harg10 arg11 harg11 arg12 harg12 arg13 harg13 X2 X3 X12 ⟨n, _⟩) h11 fun y hy => ?_,
      Tiles.append (trip13 𝒱 bd c i arg1 harg1 arg2 harg2 arg3 harg3 arg4 harg4 arg5 harg5 arg6 harg6 arg7 harg7 arg8 harg8 arg9 harg9 arg10 harg10 arg11 harg11 arg12 harg12 arg13 harg13 X2 X3 X12 ⟨n, _⟩) h13 fun y hy => ?_⟩
    · have h3 : (y 3).val < 1024 := (y 3).isLt
      rcases Nat.lt_succ_iff_lt_or_eq.1 hy with h | h
      · exact Or.inr h
      · exact Or.inl ⟨h, h3⟩
    · have h3 : (y 3).val < 8 := (y 3).isLt
      rcases Nat.lt_succ_iff_lt_or_eq.1 hy with h | h
      · exact Or.inr h
      · exact Or.inl ⟨h, h3⟩
    · have h3 : (y 3).val < 1024 := (y 3).isLt
      rcases Nat.lt_succ_iff_lt_or_eq.1 hy with h | h
      · exact Or.inr h
      · exact Or.inl ⟨h, h3⟩
    · have h3 : (y 3).val < 8 := (y 3).isLt
      rcases Nat.lt_succ_iff_lt_or_eq.1 hy with h | h
      · exact Or.inr h
      · exact Or.inl ⟨h, h3⟩
    · rcases Nat.lt_succ_iff_lt_or_eq.1 hy with h | h
      · exact Or.inr h
      · exact Or.inl ⟨h, Nat.mod_lt _ (by omega)⟩

set_option maxRecDepth 16384 in
set_option maxHeartbeats 1000000 in
/-- One trip of the second loop writes rows `2k` and `2k + 1`. -/
theorem trip7 (k : Fin k0_t2_loop.trips) (h2 : k0_cond2 i = 1#1) (h3 : k0_cond3 i = 1#1) {L : List (View.Piece (Elt F) S24x40x1024 .bf16)}
    (hL : Tiles (G7 v5 v7 (arg13.view.read (Elt F) X13) (arg4.view.read (Elt F) X4)) (fun y => (y 0).val < 2 * k.val) L) :
    Tiles (G7 v5 v7 (arg13.view.read (Elt F) X13) (arg4.view.read (Elt F) X4)) (fun y => (y 0).val < 2 * (k.val + 1))
      ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 k).2.1 h2 h3 ++ L) := by
  have hk : k.val < 12 := Nat.lt_of_lt_of_le k.isLt k0_t2_abs.2.1
  unfold trip_k0_t2; dsimp only
  exact cons12 k.val (k0_off68_eq k) (fun x => ok7 v5 v7 arg13 X13 arg4 X4 ⟨k.val, hk⟩ (k0_off66_eq k) _ _ (k0_off68_eq k) _ x) hL

set_option maxRecDepth 16384 in
set_option maxHeartbeats 1000000 in
/-- One trip of the second loop writes rows `2k` and `2k + 1`. -/
theorem trip7' (k : Fin k0_t2_loop.trips) (h2 : ¬ k0_cond2 i = 1#1) (h3 : k0_cond3 i = 1#1) {L : List (View.Piece (Elt F) S24x40x1024 .bf16)}
    (hL : Tiles (G7 v5 v7 (arg13.view.read (Elt F) X13) (arg4.view.read (Elt F) X4)) (fun y => (y 0).val < 2 * k.val) L) :
    Tiles (G7 v5 v7 (arg13.view.read (Elt F) X13) (arg4.view.read (Elt F) X4)) (fun y => (y 0).val < 2 * (k.val + 1))
      ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 k).1 h2 h3 ++ L) := by
  have hk : k.val < 12 := Nat.lt_of_lt_of_le k.isLt k0_t2_abs.2.1
  unfold trip_k0_t2; dsimp only
  exact cons12 k.val (k0_off68_eq k) (fun x => ok7 v5 v7 arg13 X13 arg4 X4 ⟨k.val, hk⟩ (k0_off66_eq k) _ _ (k0_off68_eq k) _ x) hL

set_option maxRecDepth 16384 in
set_option maxHeartbeats 1000000 in
/-- One trip of the second loop writes rows `2k` and `2k + 1`. -/
theorem trip12 (k : Fin k0_t2_loop.trips) (h2 : k0_cond2 i = 1#1) (h3 : k0_cond3 i = 1#1) {L : List (View.Piece (Elt F) S24x40x1024 .f32)}
    (hL : Tiles (G12 v5 v7 (arg13.view.read (Elt F) X13) (arg4.view.read (Elt F) X4)) (fun y => (y 0).val < 2 * k.val) L) :
    Tiles (G12 v5 v7 (arg13.view.read (Elt F) X13) (arg4.view.read (Elt F) X4)) (fun y => (y 0).val < 2 * (k.val + 1))
      ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 k).2.2.2.1 h2 h3 ++ L) := by
  have hk : k.val < 12 := Nat.lt_of_lt_of_le k.isLt k0_t2_abs.2.1
  unfold trip_k0_t2; dsimp only
  exact cons12 k.val (k0_off67_eq k) (fun x => ok12 v5 v7 arg13 X13 arg4 X4 ⟨k.val, hk⟩ (k0_off66_eq k) _ _ (k0_off67_eq k) _ x) hL

set_option maxRecDepth 16384 in
set_option maxHeartbeats 1000000 in
/-- One trip of the second loop writes rows `2k` and `2k + 1`. -/
theorem trip12' (k : Fin k0_t2_loop.trips) (h2 : k0_cond2 i = 1#1) (h3 : ¬ k0_cond3 i = 1#1) {L : List (View.Piece (Elt F) S24x40x1024 .f32)}
    (hL : Tiles (G12 v5 v7 (arg13.view.read (Elt F) X13) (arg4.view.read (Elt F) X4)) (fun y => (y 0).val < 2 * k.val) L) :
    Tiles (G12 v5 v7 (arg13.view.read (Elt F) X13) (arg4.view.read (Elt F) X4)) (fun y => (y 0).val < 2 * (k.val + 1))
      ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 k).2.2.1 h2 h3 ++ L) := by
  have hk : k.val < 12 := Nat.lt_of_lt_of_le k.isLt k0_t2_abs.2.1
  unfold trip_k0_t2; dsimp only
  exact cons12 k.val (k0_off67_eq k) (fun x => ok12 v5 v7 arg13 X13 arg4 X4 ⟨k.val, hk⟩ (k0_off66_eq k) _ _ (k0_off67_eq k) _ x) hL

/-- All trips of the second loop before `n`, at the activations: with the condition they fill them, and without it they
    leave them. -/
theorem pb2_12 (h2 : k0_cond2 i = 1#1) (n : Nat) (hn : n ≤ 12) :
    Tiles (G12 v5 v7 (arg13.view.read (Elt F) X13) (arg4.view.read (Elt F) X4)) (fun y => (y 0).val < 2 * n) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 n).2 := by
  induction n with
  | zero => rw [pb_k0_t2.eq_1]; exact Tiles.nil _ _ fun y => Nat.not_lt_zero _
  | succ n ih =>
    rw [pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 (⟨n, by rw [trips2]; omega⟩ : Fin k0_t2_loop.trips)]
    dsimp only
    rw [dif_pos h2]
    split
    · next h3 => exact trip12 𝒱 bd c i arg1 harg1 arg2 harg2 arg3 harg3 arg4 harg4 arg5 harg5 arg6 harg6 arg7 harg7 arg8 harg8 arg9 harg9 arg10 harg10 arg11 harg11 arg12 harg12 arg13 harg13 X4 X13 v5 v7 ⟨n, _⟩ h2 h3 (ih (by omega))
    · next h3 => exact trip12' 𝒱 bd c i arg1 harg1 arg2 harg2 arg3 harg3 arg4 harg4 arg5 harg5 arg6 harg6 arg7 harg7 arg8 harg8 arg9 harg9 arg10 harg10 arg11 harg11 arg12 harg12 arg13 harg13 X4 X13 v5 v7 ⟨n, _⟩ h2 h3 (ih (by omega))

theorem pb2_12_none (h2 : ¬ k0_cond2 i = 1#1) (n : Nat) (hn : n ≤ 12) : (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 n).2 = [] := by
  induction n with
  | zero => rw [pb_k0_t2.eq_1]
  | succ n ih =>
    rw [pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 (⟨n, by rw [trips2]; omega⟩ : Fin k0_t2_loop.trips)]
    dsimp only
    rw [dif_neg h2, ih (by omega)]
    split <;> rfl

/-- All trips of the second loop before `n`, at the result. -/
theorem pb2_7 (h3 : k0_cond3 i = 1#1) (n : Nat) (hn : n ≤ 12) :
    Tiles (G7 v5 v7 (arg13.view.read (Elt F) X13) (arg4.view.read (Elt F) X4)) (fun y => (y 0).val < 2 * n) (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 n).1 := by
  induction n with
  | zero => rw [pb_k0_t2.eq_1]; exact Tiles.nil _ _ fun y => Nat.not_lt_zero _
  | succ n ih =>
    rw [pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 (⟨n, by rw [trips2]; omega⟩ : Fin k0_t2_loop.trips)]
    dsimp only
    simp only [dif_pos h3]
    split
    · next h2 => exact trip7 𝒱 bd c i arg1 harg1 arg2 harg2 arg3 harg3 arg4 harg4 arg5 harg5 arg6 harg6 arg7 harg7 arg8 harg8 arg9 harg9 arg10 harg10 arg11 harg11 arg12 harg12 arg13 harg13 X4 X13 v5 v7 ⟨n, _⟩ h2 h3 (ih (by omega))
    · next h2 => exact trip7' 𝒱 bd c i arg1 harg1 arg2 harg2 arg3 harg3 arg4 harg4 arg5 harg5 arg6 harg6 arg7 harg7 arg8 harg8 arg9 harg9 arg10 harg10 arg11 harg11 arg12 harg12 arg13 harg13 X4 X13 v5 v7 ⟨n, _⟩ h2 h3 (ih (by omega))

theorem pb2_7_none (h3 : ¬ k0_cond3 i = 1#1) (n : Nat) (hn : n ≤ 12) : (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 n).1 = [] := by
  induction n with
  | zero => rw [pb_k0_t2.eq_1]
  | succ n ih =>
    rw [pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 v5 v7 X4 X13 (⟨n, by rw [trips2]; omega⟩ : Fin k0_t2_loop.trips)]
    dsimp only
    simp only [dif_neg h3, ih (by omega)]
    split <;> rfl

end Cert.KernelIdeal.Value
-- ==== Proof.PI.Body.lean ====
module

public import proofs.«01_k».proof.Proof.PI.Trips

/-!
The kernel's body on its buffers, with what it leaves in each: at the first point from the input block, at the next
points from the carried activations, and at the last point into the result.
-/

@[expose] public section

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `l` of a table of five rows: the layer's scales or bias. -/
def row (l : Fin 5) (x : Vec F S5x1024 .f32) : Vec F S1x1024 .f32 := fun y => x (ix2 l (y 1))

theorem readAt_row (m : Memref sig .tc .vmem S5x1024 .f32) (X : BufTy.Contents (Elt F) m.view.ty) (i : grid0.Coords)
    {off : Fin 2 → Nat} (h : off = ![(i 0).val, 0]) (inb) :
    View.readAt (Elt F) m.view (Rect.unit (s := S5x1024) off ![1, 1024] inb).toLoadRect X = row (i 0) (m.view.read (Elt F) X) := by
  subst h
  rw [View.readAt_unit m.view X inb rfl inb]
  funext x
  unfold VecWindow.window row
  congr 1
  funext d
  fin_cases d <;> ext <;> simp [ix2]
  exact Nat.lt_one_iff.1 (x 0).isLt

theorem le1 : k0_t1_loop.trips ≤ 24 := trips1.le
theorem le2 : k0_t2_loop.trips ≤ 12 := trips2.le

set_option maxHeartbeats 400000 in
/-- The body at the first point, where it takes its input block as the activations. -/
theorem body_first (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : cond0_0 i) (h2 : k0_cond2 i = 1#1) (h3 : ¬ k0_cond3 i = 1#1)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (d6 : Vec F S24x40x1024 .bf16) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare (G8 (k0_pay1 x0))
        ∗ owns (c : Thread nD τ) arg9 fullShare (G9 (k0_pay1 x0))
        ∗ owns (c : Thread nD τ) arg10 fullShare (G10 (k0_pay1 x0))
        ∗ owns (c : Thread nD τ) arg11 fullShare (G11 (k0_pay1 x0))
        ∗ owns (c : Thread nD τ) arg12 fullShare (G12 (row (i 0) x4) (row (i 0) x5) (G13 (k0_pay1 x0) x1 x2) x3)
        ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  have he : arg12.view.read (Elt F) (arg12.view.writes (Elt F) arg12.view.junk (body_first.sl.H11_1 c arg1 f0)) = k0_pay1 (arg1.view.read (Elt F) f0) := (View.read_writes_full arg12.view arg12.view.junk _ _ []).trans (congrArg k0_pay1 (View.readAt_full arg1.view f0 _))
  rw [View.writes_append]
  generalize (arg12.view.writes (Elt F) arg12.view.junk (body_first.sl.H11_1 c arg1 f0)) = X12 at he ⊢
  isplitl [H6]
  · iexists _; isplitr; swap; · iexact H6
    ipureintro
    rw [pb2_7_none (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h3 _ le2]; rfl
  isplitl [H7]
  · iexists _; isplitr; swap; · iexact H7
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).1.read (fun y => lt_of_lt_of_eq (y 1).isLt trips1.symm) arg8 f7).trans (congrArg G8 he)
  isplitl [H8]
  · iexists _; isplitr; swap; · iexact H8
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.1.read (fun y => lt_of_lt_of_eq (y 1).isLt trips1.symm) arg9 f8).trans (congrArg G9 he)
  isplitl [H9]
  · iexists _; isplitr; swap; · iexact H9
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.1.read (fun y => lt_of_lt_of_eq (y 1).isLt trips1.symm) arg10 f9).trans (congrArg G10 he)
  isplitl [H10]
  · iexists _; isplitr; swap; · iexact H10
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.1.read (fun y => lt_of_lt_of_eq (y 1).isLt trips1.symm) arg11 f10).trans (congrArg G11 he)
  isplitl [H11]
  · iexists _; isplitr; swap; · iexact H11
    ipureintro
    refine ((pb2_12 (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h2 _ le2).read (fun y => lt_of_lt_of_eq (y 0).isLt (by rw [trips2]; rfl)) arg12 _).trans ?_
    rw [readAt_row arg5 f4 i (k0_off65_eq i), readAt_row arg6 f5 i (k0_off65_eq i)]
    exact congrArg (fun p => G12 _ _ p _) (((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.2.read (fun y => lt_of_lt_of_eq (y 0).isLt trips1.symm) arg13 f12).trans (congrArg (fun a => G13 a _ _) he))
  iexists _, _; isplitr; swap; · iexact H12
  ipureintro; rfl

set_option maxHeartbeats 400000 in
/-- The body at a point between, from the carried activations `a`. -/
theorem body_mid (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : ¬ cond0_0 i) (h2 : k0_cond2 i = 1#1) (h3 : ¬ k0_cond3 i = 1#1)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (d6 : Vec F S24x40x1024 .bf16) (a : Vec F S24x40x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare a
        ∗ (∃ d, owns (c : Thread nD τ) arg13 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ owns (c : Thread nD τ) arg8 fullShare (G8 a)
        ∗ owns (c : Thread nD τ) arg9 fullShare (G9 a)
        ∗ owns (c : Thread nD τ) arg10 fullShare (G10 a)
        ∗ owns (c : Thread nD τ) arg11 fullShare (G11 a)
        ∗ owns (c : Thread nD τ) arg12 fullShare (G12 (row (i 0) x4) (row (i 0) x5) (G13 a x1 x2) x3)
        ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, Hk⟩
  subst hf0 hf1 hf2 hf3 hf4 hf5 hf6 hf11
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  have he : arg12.view.read (Elt F) f11 = arg12.view.read (Elt F) f11 := rfl
  isplitl [H6]
  · iexists _; isplitr; swap; · iexact H6
    ipureintro
    rw [pb2_7_none (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h3 _ le2]; rfl
  isplitl [H7]
  · iexists _; isplitr; swap; · iexact H7
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).1.read (fun y => lt_of_lt_of_eq (y 1).isLt trips1.symm) arg8 f7).trans (congrArg G8 he)
  isplitl [H8]
  · iexists _; isplitr; swap; · iexact H8
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.1.read (fun y => lt_of_lt_of_eq (y 1).isLt trips1.symm) arg9 f8).trans (congrArg G9 he)
  isplitl [H9]
  · iexists _; isplitr; swap; · iexact H9
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.1.read (fun y => lt_of_lt_of_eq (y 1).isLt trips1.symm) arg10 f9).trans (congrArg G10 he)
  isplitl [H10]
  · iexists _; isplitr; swap; · iexact H10
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.1.read (fun y => lt_of_lt_of_eq (y 1).isLt trips1.symm) arg11 f10).trans (congrArg G11 he)
  isplitl [H11]
  · iexists _; isplitr; swap; · iexact H11
    ipureintro
    refine ((pb2_12 (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h2 _ le2).read (fun y => lt_of_lt_of_eq (y 0).isLt (by rw [trips2]; rfl)) arg12 _).trans ?_
    rw [readAt_row arg5 f4 i (k0_off65_eq i), readAt_row arg6 f5 i (k0_off65_eq i)]
    exact congrArg (fun p => G12 _ _ p _) (((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.2.read (fun y => lt_of_lt_of_eq (y 0).isLt trips1.symm) arg13 f12).trans (congrArg (fun a => G13 a _ _) he))
  iexists _, _; isplitr; swap; · iexact H12
  ipureintro; rfl

set_option maxHeartbeats 400000 in
/-- The body at the last point, where the layer's result goes to the output. -/
theorem body_last (c : Dev nD) (i : grid0.Coords) (arg1 : Memref sig .tc .vmem S24x40x1024 .bf16) (harg1 : arg1.IsWhole) (arg2 : Memref sig .tc .vmem S1x24x2x1024 .fp8e4m3) (harg2 : arg2.IsWhole) (arg3 : Memref sig .tc .vmem S1x24x2x8 .f32) (harg3 : arg3.IsWhole) (arg4 : Memref sig .tc .vmem S1x3x1024x1024 .fp8e4m3) (harg4 : arg4.IsWhole) (arg5 : Memref sig .tc .vmem S5x1024 .f32) (harg5 : arg5.IsWhole) (arg6 : Memref sig .tc .vmem S5x1024 .f32) (harg6 : arg6.IsWhole) (arg7 : Memref sig .tc .vmem S24x40x1024 .bf16) (harg7 : arg7.IsWhole) (arg8 : Memref sig .tc .vmem S1x24x40x1024 .fp8e4m3) (harg8 : arg8.IsWhole) (arg9 : Memref sig .tc .vmem S1x24x40x8 .f32) (harg9 : arg9.IsWhole) (arg10 : Memref sig .tc .vmem S1x24x2x1024 .fp8e4m3) (harg10 : arg10.IsWhole) (arg11 : Memref sig .tc .vmem S1x24x2x8 .f32) (harg11 : arg11.IsWhole) (arg12 : Memref sig .tc .vmem S24x40x1024 .f32) (harg12 : arg12.IsWhole) (arg13 : Memref sig .tc .vmem S24x40x3072 .bf16) (harg13 : arg13.IsWhole) (hc0 : ¬ cond0_0 i) (h2 : ¬ k0_cond2 i = 1#1) (h3 : k0_cond3 i = 1#1)
    (x0 : Vec F S24x40x1024 .bf16) (x1 : Vec F S1x24x2x1024 .fp8e4m3) (x2 : Vec F S1x24x2x8 .f32) (x3 : Vec F S1x3x1024x1024 .fp8e4m3) (x4 : Vec F S5x1024 .f32) (x5 : Vec F S5x1024 .f32) (d6 : Vec F S24x40x1024 .bf16) (a : Vec F S24x40x1024 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare d6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ owns (c : Thread nD τ) arg12 fullShare a
        ∗ (∃ d, owns (c : Thread nD τ) arg13 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (G7 (row (i 0) x4) (row (i 0) x5) (G13 a x1 x2) x3)
        ∗ owns (c : Thread nD τ) arg8 fullShare (G8 a)
        ∗ owns (c : Thread nD τ) arg9 fullShare (G9 a)
        ∗ owns (c : Thread nD τ) arg10 fullShare (G10 a)
        ∗ owns (c : Thread nD τ) arg11 fullShare (G11 a)
        ∗ owns (c : Thread nD τ) arg12 fullShare a
        ∗ (∃ d, owns (c : Thread nD τ) arg13 fullShare d)) -∗ K ⟨⟩))
      ⊢ wp frame (wpE (defs₀ (F := F)) Variants.none c none) E (cc0_conv_stack i arg1 harg1 arg2 harg2 arg3 harg3 arg4 harg4 arg5 harg5 arg6 harg6 arg7 harg7 arg8 harg8 arg9 harg9 arg10 harg10 arg11 harg11 arg12 harg12 arg13 harg13) K := by
  simp only [cc0_conv_stack_eq_skeleton]; unfold cc0_conv_stack_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%d12, %f12, -, H12⟩, Hk⟩
  subst hf0 hf1 hf2 hf3 hf4 hf5 hf6 hf11
  sl_exec (disch := first | sl_exact hc0)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  have he : arg12.view.read (Elt F) f11 = arg12.view.read (Elt F) f11 := rfl
  isplitl [H6]
  · iexists _; isplitr; swap; · iexact H6
    ipureintro
    refine ((pb2_7 (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h3 _ le2).read (fun y => lt_of_lt_of_eq (y 0).isLt (by rw [trips2]; rfl)) arg7 f6).trans ?_
    rw [readAt_row arg5 f4 i (k0_off65_eq i), readAt_row arg6 f5 i (k0_off65_eq i)]
    exact congrArg (fun p => G7 _ _ p _) (((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.2.read (fun y => lt_of_lt_of_eq (y 0).isLt trips1.symm) arg13 f12).trans (congrArg (fun a => G13 a _ _) he))
  isplitl [H7]
  · iexists _; isplitr; swap; · iexact H7
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).1.read (fun y => lt_of_lt_of_eq (y 1).isLt trips1.symm) arg8 f7).trans (congrArg G8 he)
  isplitl [H8]
  · iexists _; isplitr; swap; · iexact H8
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.1.read (fun y => lt_of_lt_of_eq (y 1).isLt trips1.symm) arg9 f8).trans (congrArg G9 he)
  isplitl [H9]
  · iexists _; isplitr; swap; · iexact H9
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.1.read (fun y => lt_of_lt_of_eq (y 1).isLt trips1.symm) arg10 f9).trans (congrArg G10 he)
  isplitl [H10]
  · iexists _; isplitr; swap; · iexact H10
    ipureintro
    exact ((pb1 (F := F) Variants.none none c i arg1 harg1 arg2 harg2 arg3 harg3 arg4 harg4 arg5 harg5 arg6 harg6 arg7 harg7 arg8 harg8 arg9 harg9 arg10 harg10 arg11 harg11 arg12 harg12 arg13 harg13 f1 f2 _ _ le1).2.2.2.1.read (fun y => lt_of_lt_of_eq (y 1).isLt trips1.symm) arg11 f10).trans (congrArg G11 he)
  isplitl [H11]
  · iexists _; isplitr; swap; · iexact H11
    ipureintro
    rw [pb2_12_none (F := F) Variants.none none c i arg1 harg1 arg2 harg2 arg3 harg3 arg4 harg4 arg5 harg5 arg6 harg6 arg7 harg7 arg8 harg8 arg9 harg9 arg10 harg10 arg11 harg11 arg12 harg12 arg13 harg13 f3 _ _ _ h2 _ le2]; rfl
  iexists _, _; isplitr; swap; · iexact H12
  ipureintro; rfl

end Cert.KernelIdeal.Value

end
-- ==== Proof.PI.Run.lean ====
module

public import proofs.«01_k».proof.Proof.PI.Body
public import Idealize.ShloMosaic.Lib.Claim
public import Idealize.ShloMosaic.Lib.Pipeline.ValueKit

/-!
The idealized kernel's run with the values it computes: the activations carried from point to point, what every point
leaves in the output blocks, and what the result arrays hold at the end.
-/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body over the points -/

/-- The activations are carried on at every point but the last, -/
theorem hcond2 : ∀ t : Fin cfg0.N, k0_cond2 (grid0.coords t) = 1#1 ↔ t.val ≠ 4 :=
  (by decide +kernel : ∀ t : Fin grid0.N, k0_cond2 (grid0.coords t) = 1#1 ↔ t.val ≠ 4)
/-- and written out at the last. -/
theorem hcond3 : ∀ t : Fin cfg0.N, k0_cond3 (grid0.coords t) = 1#1 ↔ t.val = 4 :=
  (by decide +kernel : ∀ t : Fin grid0.N, k0_cond3 (grid0.coords t) = 1#1 ↔ t.val = 4)
/-- The activations' window is idle at every point but the last. -/
theorem idle6 : ∀ t : Fin cfg0.N, cfg0.idle 6 (grid0.coords t) = !(k0_cond3 (grid0.coords t) == 1#1) := fun _ => rfl

/-! ## The activations -/

/-- The packed windows of point `t`, from the activations `a` it starts with. -/
def packed (c : Dev nD) (t : Fin cfg0.N) (a : Vec F S24x40x1024 .f32) : Vec F S24x40x3072 .bf16 :=
  G13 a (iblk m c 1 t) (iblk m c 2 t)

/-- One layer: what point `t` makes of the activations `a`. -/
def layer (c : Dev nD) (t : Fin cfg0.N) (a : Vec F S24x40x1024 .f32) : Vec F S24x40x1024 .f32 :=
  G12 (row (grid0.coords t 0) (iblk m c 4 t)) (row (grid0.coords t 0) (iblk m c 5 t)) (packed m c t a) (iblk m c 3 t)

/-- The activations the kernel carries into point `n`. -/
def act (c : Dev nD) : ℕ → Vec F S24x40x1024 .f32
  | 0 => k0_pay1 (iblk m c 0 ⟨0, by decide⟩)
  | n + 1 => if h : n < cfg0.N then layer m c ⟨n, h⟩ (act c n) else act c n

theorem act_zero (c : Dev nD) (t : Fin cfg0.N) (h : t.val = 0) : act m c t.val = k0_pay1 (iblk m c 0 t) := by
  obtain ⟨n, hn⟩ := t
  cases (show n = 0 from h)
  rfl

theorem act_succ (c : Dev nD) (t : Fin cfg0.N) : act m c (t.val + 1) = layer m c t (act m c t.val) := by
  rw [act, dif_pos t.isLt]

/-- What the last point writes out. -/
def final (c : Dev nD) (t : Fin cfg0.N) : Vec F S24x40x1024 .bf16 :=
  G7 (row (grid0.coords t 0) (iblk m c 4 t)) (row (grid0.coords t 0) (iblk m c 5 t)) (packed m c t (act m c t.val)) (iblk m c 3 t)

/-! ## The invariant of the scratch -/

/-- What the kernel holds of its own before point `n`: strictly inside the grid the carried activations are `act n`. -/
def PhiN (c : Dev nD) (n : ℕ) : sProp 𝕄 :=
  if n = 0 ∨ n = 5 then Pipeline.ΦA spec0 c
  else iprop(iprop(owns (c : Thread nD τ) scM0_0 fullShare (act m c n) ∗ (∃ d, owns (c : Thread nD τ) scM0_1 fullShare d)) ∗ (∃ r, prngReg c r))

theorem PhiN_end (c : Dev nD) (n : ℕ) (h : n = 0 ∨ n = 5) : PhiN m c n
    = iprop(iprop((∃ d, owns (c : Thread nD τ) scM0_0 fullShare d) ∗ (∃ d, owns (c : Thread nD τ) scM0_1 fullShare d)) ∗ (∃ r, prngReg c r)) := by
  unfold PhiN; rw [if_pos h, PhiA0_eq]

theorem PhiN_in (c : Dev nD) (n : ℕ) (h : ¬ (n = 0 ∨ n = 5)) : PhiN m c n
    = iprop(iprop(owns (c : Thread nD τ) scM0_0 fullShare (act m c n) ∗ (∃ d, owns (c : Thread nD τ) scM0_1 fullShare d)) ∗ (∃ r, prngReg c r)) := by
  unfold PhiN; rw [if_neg h]

/-! ## The proof data -/

/-- The proof data on core `c`: the arrays as the region finds them; each input's buffer keeps its block; each output's
    buffer ends at the values computed from the activations the point starts with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => final m c t
    | ⟨7, _⟩ => G8 (act m c t.val)
    | ⟨8, _⟩ => G9 (act m c t.val)
    | ⟨9, _⟩ => G10 (act m c t.val)
    | ⟨10, _⟩ => G11 (act m c t.val)
  Φ t := PhiN m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = final m c t := by dsimp only [dats]
theorem after_7 (c : Dev nD) (t : Fin cfg0.N) : (dats m 0 c).after 7 t = G8 (act m c t.val) := by dsimp only [dats]
theorem after_8 (c : Dev nD) (t : Fin cfg0.N) : (dats m 0 c).after 8 t = G9 (act m c t.val) := by dsimp only [dats]
theorem after_9 (c : Dev nD) (t : Fin cfg0.N) : (dats m 0 c).after 9 t = G10 (act m c t.val) := by dsimp only [dats]
theorem after_10 (c : Dev nD) (t : Fin cfg0.N) : (dats m 0 c).after 10 t = G11 (act m c t.val) := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1000000 in
/-- The first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  have h4 : ¬ t.val = 4 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 4 t = owns (c : Thread nD τ) (ms0_4 t) fullShare ((dats m 0 c).after 4 t) from by
    unfold Dat.leavesExact; rw [show cfg0.idle 4 (grid0.coords t) = false from rfl], after_4]
  rw [show (dats m 0 c).leavesExact 5 t = owns (c : Thread nD τ) (ms0_5 t) fullShare ((dats m 0 c).after 5 t) from by
    unfold Dat.leavesExact; rw [show cfg0.idle 5 (grid0.coords t) = false from rfl], after_5]
  rw [show (dats m 0 c).leavesExact 7 t = owns (c : Thread nD τ) (ms0_7 t) fullShare ((dats m 0 c).after 7 t) from by
    unfold Dat.leavesExact; rw [show cfg0.idle 7 (grid0.coords t) = false from rfl], after_7]
  rw [show (dats m 0 c).leavesExact 8 t = owns (c : Thread nD τ) (ms0_8 t) fullShare ((dats m 0 c).after 8 t) from by
    unfold Dat.leavesExact; rw [show cfg0.idle 8 (grid0.coords t) = false from rfl], after_8]
  rw [show (dats m 0 c).leavesExact 9 t = owns (c : Thread nD τ) (ms0_9 t) fullShare ((dats m 0 c).after 9 t) from by
    unfold Dat.leavesExact; rw [show cfg0.idle 9 (grid0.coords t) = false from rfl], after_9]
  rw [show (dats m 0 c).leavesExact 10 t = owns (c : Thread nD τ) (ms0_10 t) fullShare ((dats m 0 c).after 10 t) from by
    unfold Dat.leavesExact; rw [show cfg0.idle 10 (grid0.coords t) = false from rfl], after_10]
  rw [(dats m 0 c).leavesExact_idle 6 t (by rw [idle6]; simp [(hcond3 t).not.2 h4]) (by
    rcases hf : (cfg0.win 6).flush t with _ | _
    · rfl
    · exact absurd ((flush0_6 t).1 hf) (by have := t.isLt; have : cfg0.N = 5 := N_0; omega))]
  rw [PhiN_end m c t.val (Or.inl h0), PhiN_in m c (t.val + 1) (by omega), act_succ, act_zero m c t h0]
  unfold layer packed
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_first c (grid0.coords t) _ _ _ _ _ _ _ _ _ _ _ _ _ _ _ _ _ _ _ _ _ _ _ _ _ _ ((hcond0_0 t).2 (by omega)) ((hcond2 t).2 h4) ((hcond3 t).not.2 h4) (iblk m c 0 t) (iblk m c 1 t) (iblk m c 2 t) (iblk m c 3 t) (iblk m c 4 t) (iblk m c 5 t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  iexact H10

set_option maxHeartbeats 1000000 in
/-- A point inside. -/
theorem sound_mid (c : Dev nD) (t : Fin cfg0.N) (h0 : t.val ≠ 0) (h4 : ¬ t.val = 4) :
    bodyPre m c t ⊢ wp frame (wpE (defs₀ (F := F)) Variants.none c none) Set.univ (bodyAt0 t) (fun _ => bodyPost m c t) := by
  have hN : t.val < 5 := Nat.lt_of_lt_of_eq t.isLt N_0
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 4 t = owns (c : Thread nD τ) (ms0_4 t) fullShare ((dats m 0 c).after 4 t) from by
    unfold Dat.leavesExact; rw [show cfg0.idle 4 (grid0.coords t) = false from rfl], after_4]
  rw [show (dats m 0 c).leavesExact 5 t = owns (c : Thread nD τ) (ms0_5 t) fullShare ((dats m 0 c).after 5 t) from by
    unfold Dat.leavesExact; rw [show cfg0.idle 5 (grid0.coords t) = false from rfl], after_5]
  rw [show (dats m 0 c).leavesExact 7 t = owns (c : Thread nD τ) (ms0_7 t) fullShare ((dats m 0 c).after 7 t) from by
    unfold Dat.leavesExact; rw [show cfg0.idle 7 (grid0.coords t) = false from rfl], after_7]
  rw [show (dats m 0 c).leavesExact 8 t = owns (c : Thread nD τ) (ms0_8 t) fullShare ((dats m 0 c).after 8 t) from by
    unfold Dat.leavesExact; rw [show cfg0.idle 8 (grid0.coords t) = false from rfl], after_8]
  rw [show (dats m 0 c).leavesExact 9 t = owns (c : Thread nD τ) (ms0_9 t) fullShare ((dats m 0 c).after 9 t) from by
    unfold Dat.leavesExact; rw [show cfg0.idle 9 (grid0.coords t) = false from rfl], after_9]
  rw [show (dats m 0 c).leavesExact 10 t = owns (c : Thread nD τ) (ms0_10 t) fullShare ((dats m 0 c).after 10 t) from by
    unfold Dat.leavesExact; rw [show cfg0.idle 10 (grid0.coords t) = false from rfl], after_10]
  rw [(dats m 0 c).leavesExact_idle 6 t (by rw [idle6]; simp [(hcond3 t).not.2 h4]) (by
    rcases hf : (cfg0.win 6).flush t with _ | _
    · rfl
    · exact absurd ((flush0_6 t).1 hf) (by have := t.isLt; have : cfg0.N = 5 := N_0; omega))]
  rw [PhiN_in m c t.val (by omega), PhiN_in m c (t.val + 1) (by omega), act_succ]
  unfold layer packed
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_mid c (grid0.coords t) _ _ _ _ _ _ _ _ _ _ _ _ _ _ _ _ _ _ _ _ _ _ _ _ _ _ ((hcond0_0 t).not.2 (by omega)) ((hcond2 t).2 h4) ((hcond3 t).not.2 h4) (iblk m c 0 t) (iblk m c 1 t) (iblk m c 2 t) (iblk m c 3 t) (iblk m c 4 t) (iblk m c 5 t) ((dats m 0 c).before 6 t d6) (act m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  iexact H10

set_option maxHeartbeats 1000000 in
/-- The last point. -/
theorem sound_last (c : Dev nD) (t : Fin cfg0.N) (h4 : t.val = 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  rw [show (dats m 0 c).leavesExact 0 t = owns (c : Thread nD τ) (ms0_0 t) fullShare ((dats m 0 c).after 0 t) from by
    unfold Dat.leavesExact; rw [show cfg0.idle 0 (grid0.coords t) = false from rfl], after_0]
  rw [show (dats m 0 c).leavesExact 1 t = owns (c : Thread nD τ) (ms0_1 t) fullShare ((dats m 0 c).after 1 t) from by
    unfold Dat.leavesExact; rw [show cfg0.idle 1 (grid0.coords t) = false from rfl], after_1]
  rw [show (dats m 0 c).leavesExact 2 t = owns (c : Thread nD τ) (ms0_2 t) fullShare ((dats m 0 c).after 2 t) from by
    unfold Dat.leavesExact; rw [show cfg0.idle 2 (grid0.coords t) = false from rfl], after_2]
  rw [show (dats m 0 c).leavesExact 3 t = owns (c : Thread nD τ) (ms0_3 t) fullShare ((dats m 0 c).after 3 t) from by
    unfold Dat.leavesExact; rw [show cfg0.idle 3 (grid0.coords t) = false from rfl], after_3]
  rw [show (dats m 0 c).leavesExact 4 t = owns (c : Thread nD τ) (ms0_4 t) fullShare ((dats m 0 c).after 4 t) from by
    unfold Dat.leavesExact; rw [show cfg0.idle 4 (grid0.coords t) = false from rfl], after_4]
  rw [show (dats m 0 c).leavesExact 5 t = owns (c : Thread nD τ) (ms0_5 t) fullShare ((dats m 0 c).after 5 t) from by
    unfold Dat.leavesExact; rw [show cfg0.idle 5 (grid0.coords t) = false from rfl], after_5]
  rw [show (dats m 0 c).leavesExact 7 t = owns (c : Thread nD τ) (ms0_7 t) fullShare ((dats m 0 c).after 7 t) from by
    unfold Dat.leavesExact; rw [show cfg0.idle 7 (grid0.coords t) = false from rfl], after_7]
  rw [show (dats m 0 c).leavesExact 8 t = owns (c : Thread nD τ) (ms0_8 t) fullShare ((dats m 0 c).after 8 t) from by
    unfold Dat.leavesExact; rw [show cfg0.idle 8 (grid0.coords t) = false from rfl], after_8]
  rw [show (dats m 0 c).leavesExact 9 t = owns (c : Thread nD τ) (ms0_9 t) fullShare ((dats m 0 c).after 9 t) from by
    unfold Dat.leavesExact; rw [show cfg0.idle 9 (grid0.coords t) = false from rfl], after_9]
  rw [show (dats m 0 c).leavesExact 10 t = owns (c : Thread nD τ) (ms0_10 t) fullShare ((dats m 0 c).after 10 t) from by
    unfold Dat.leavesExact; rw [show cfg0.idle 10 (grid0.coords t) = false from rfl], after_10]
  rw [show (dats m 0 c).leavesExact 6 t = owns (c : Thread nD τ) (ms0_6 t) fullShare ((dats m 0 c).after 6 t) from by
    unfold Dat.leavesExact; rw [show cfg0.idle 6 (grid0.coords t) = false from by rw [idle6, (hcond3 t).2 h4]; rfl], after_6]
  rw [PhiN_in m c t.val (by omega), PhiN_end m c (t.val + 1) (by omega)]
  unfold final packed
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_last c (grid0.coords t) _ _ _ _ _ _ _ _ _ _ _ _ _ _ _ _ _ _ _ _ _ _ _ _ _ _ ((hcond0_0 t).not.2 (by omega)) ((hcond2 t).not.2 (by omega)) ((hcond3 t).2 h4) (iblk m c 0 t) (iblk m c 1 t) (iblk m c 2 t) (iblk m c 3 t) (iblk m c 4 t) (iblk m c 5 t) ((dats m 0 c).before 6 t d6) (act m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, HS0, HS1⟩
  isplitl [HS0 HS1 Hg]
  · isplitl [HS0 HS1]
    · isplitl [HS0]; · iexists _; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  by_cases h0 : t.val = 0
  · exact triple_restated (sound_first m c t h0) rfl .rfl fun _ => .rfl
  by_cases h4 : t.val = 4
  · exact triple_restated (sound_last m c t h4) rfl .rfl fun _ => .rfl
  · exact triple_restated (sound_mid m c t h0 h4) rfl .rfl fun _ => .rfl

theorem phi_in (c : Dev nD) : Pipeline.ΦA spec0 c ⊢ (dats (F := F) m 0 c).Φ 0 := by
  rw [show (dats m 0 c).Φ 0 = PhiN m c 0 from rfl, PhiN_end m c 0 (Or.inl rfl), PhiA0_eq]

theorem phi_out (c : Dev nD) : (dats (F := F) m 0 c).Φ (Fin.last cfg0.N) ⊢ Pipeline.ΦA spec0 c := by
  rw [show (dats m 0 c).Φ (Fin.last cfg0.N) = PhiN m c cfg0.N from rfl, PhiN_end m c cfg0.N (Or.inr N_0), PhiA0_eq]

set_option backward.isDefEq.respectTransparency.types false in
/-- Every execution ends, with every array at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The same run without its counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Value

end
-- ==== Proof.Math.Scale.lean ====
module

public import Idealize.ShloMosaic.PureOps.Ideal

/-!
The power of two a block is scaled by, computed two ways from the block's largest magnitude: by counting the powers of two
that do not exceed it, and by a binary search over an exponent field. Plain facts of extended reals.
-/

@[expose] public section

noncomputable section

namespace Cert.Math

open Idealize.ShloMosaic

/-- The word that holds the exponent field `k` and nothing else. -/
def expWord (k : ℕ) : BitVec 32 := BitVec.ofNat 32 (8388608 * k)

/-- A word of exponent field `k` and no fraction is the power of two `2 ^ (k - 127)`. -/
theorem expWord_val (k : ℕ) (h0 : 1 ≤ k) (h : k ≤ 254) :
    Ideal.ofBits .f32 (expWord k) = (((2 : ℝ) ^ ((k : ℤ) - 127) : ℝ) : EReal) := by
  have e1 : (BitVec.extractLsb' 31 1 (expWord k) == 1#1) = false := by
    rw [beq_eq_false_iff_ne]
    intro hc
    have := congrArg BitVec.toNat hc
    simp [expWord, BitVec.extractLsb'_toNat, Nat.shiftRight_eq_div_pow] at this
    omega
  have e2 : (BitVec.extractLsb' 23 8 (expWord k)).toNat = k := by
    simp [expWord, BitVec.extractLsb'_toNat, Nat.shiftRight_eq_div_pow]
    omega
  have e3 : (BitVec.extractLsb' 0 23 (expWord k)).toNat = 0 := by
    simp [expWord, BitVec.extractLsb'_toNat, Nat.shiftRight_eq_div_pow]
  have hk : k ≠ 255 := by omega
  have hk0 : k ≠ 0 := by omega
  simp only [Ideal.ofBits, Ideal.ieee, e1, e2, e3]
  norm_num [hk, hk0]
  have hh : ((k : ℤ) - 127) = ((k : ℤ) - 127 - 23) + 23 := by ring
  rw [hh, zpow_add₀ (by norm_num : (2 : ℝ) ≠ 0)]
  norm_num
  rw [mul_comm]

/-- The word of exponent field zero is zero. -/
theorem expWord_zero : Ideal.ofBits .f32 (expWord 0) = 0 := by
  simp [expWord, Ideal.ofBits, Ideal.ieee]

/-- The word of the largest exponent field is infinity. -/
theorem expWord_top : Ideal.ofBits .f32 (expWord 255) = ⊤ := by
  simp [expWord, Ideal.ofBits, Ideal.ieee]

theorem c_half : Ideal.ofBits .f32 1056964608#32 = (((2 : ℝ) ^ (-1 : ℤ) : ℝ) : EReal) := by
  simp [Ideal.ofBits, Ideal.ieee, -EReal.coe_mul]; norm_num

theorem c_tiny : Ideal.ofBits .f32 8388608#32 = (((2 : ℝ) ^ (-126 : ℤ) : ℝ) : EReal) := by
  simp [Ideal.ofBits, Ideal.ieee, -EReal.coe_mul]; norm_num

theorem c_cap : Ideal.ofBits .f32 2067791872#32 = ((1.5 * (2 : ℝ) ^ (119 : ℤ) : ℝ) : EReal) := by
  simp [Ideal.ofBits, Ideal.ieee, -EReal.coe_mul]; norm_num

theorem c_126 : Ideal.ofBits .f32 1123811328#32 = ((126 : ℝ) : EReal) := by
  simp [Ideal.ofBits, Ideal.ieee, -EReal.coe_mul]; norm_num

/-- One step of the search: take the larger exponent word if its value does not exceed the threshold. -/
def stepS (t : EReal) (e b : BitVec 32) : BitVec 32 :=
  if Ideal.ofBits .f32 (IntOp.addi e b) ≤ t then IntOp.addi e b else e

/-- The eight steps of the search, from the top bit of the exponent field down. -/
def searchS (t : EReal) : BitVec 32 :=
  stepS t (stepS t (stepS t (stepS t (stepS t (stepS t (stepS t (stepS t 0#32 1073741824#32) 536870912#32) 268435456#32)
    134217728#32) 67108864#32) 33554432#32) 16777216#32) 8388608#32

/-- The step on the exponent fields themselves. -/
def nstep (N a d : ℕ) : ℕ := if a + d ≤ N then a + d else a

theorem stepS_eq (t : EReal) (N : ℕ) (H : ∀ k, k ≤ 255 → (Ideal.ofBits .f32 (expWord k) ≤ t ↔ k ≤ N)) (a d : ℕ)
    (h : a + d ≤ 255) : stepS t (expWord a) (expWord d) = expWord (nstep N a d) := by
  have e : IntOp.addi (expWord a) (expWord d) = expWord (a + d) := by
    unfold IntOp.addi expWord
    rw [← BitVec.ofNat_add]
    congr 1
    ring
  unfold stepS nstep
  rw [e, if_congr (H _ h) rfl rfl]
  split <;> rfl

theorem nstep_le (N a d m : ℕ) (h : a + d ≤ m) : nstep N a d ≤ m := by
  unfold nstep; split <;> omega

/-- A step keeps the level bracketed, and halves the bracket. -/
theorem nstep_inv (N a d : ℕ) (h : a ≤ N) (h' : N < a + (d + d)) : nstep N a d ≤ N ∧ N < nstep N a d + d := by
  unfold nstep; split <;> omega

/-- The search finds the largest exponent field whose power of two does not exceed the threshold. -/
theorem searchS_eq (t : EReal) (N : ℕ) (hN : N ≤ 255)
    (H : ∀ k, k ≤ 255 → (Ideal.ofBits .f32 (expWord k) ≤ t ↔ k ≤ N)) : searchS t = expWord N := by
  have h1 := nstep_le N 0 128 128 (by omega)
  have h2 := nstep_le N _ 64 192 (by omega : nstep N 0 128 + 64 ≤ 192)
  have h3 := nstep_le N _ 32 224 (by omega : nstep N (nstep N 0 128) 64 + 32 ≤ 224)
  have h4 := nstep_le N _ 16 240 (by omega : nstep N (nstep N (nstep N 0 128) 64) 32 + 16 ≤ 240)
  have h5 := nstep_le N _ 8 248 (by omega : nstep N (nstep N (nstep N (nstep N 0 128) 64) 32) 16 + 8 ≤ 248)
  have h6 := nstep_le N _ 4 252 (by omega : nstep N (nstep N (nstep N (nstep N (nstep N 0 128) 64) 32) 16) 8 + 4 ≤ 252)
  have h7 := nstep_le N _ 2 254
    (by omega : nstep N (nstep N (nstep N (nstep N (nstep N (nstep N 0 128) 64) 32) 16) 8) 4 + 2 ≤ 254)
  have hs : searchS t = stepS t (stepS t (stepS t (stepS t (stepS t (stepS t (stepS t (stepS t (expWord 0) (expWord 128))
      (expWord 64)) (expWord 32)) (expWord 16)) (expWord 8)) (expWord 4)) (expWord 2)) (expWord 1) := rfl
  rw [hs, stepS_eq t N H 0 128 (by omega), stepS_eq t N H _ 64 (by omega), stepS_eq t N H _ 32 (by omega),
    stepS_eq t N H _ 16 (by omega), stepS_eq t N H _ 8 (by omega), stepS_eq t N H _ 4 (by omega),
    stepS_eq t N H _ 2 (by omega), stepS_eq t N H _ 1 (by omega)]
  congr 1
  obtain ⟨a1, b1⟩ := nstep_inv N 0 128 (by omega) (by omega)
  obtain ⟨a2, b2⟩ := nstep_inv N _ 64 a1 (by omega)
  obtain ⟨a3, b3⟩ := nstep_inv N _ 32 a2 (by omega)
  obtain ⟨a4, b4⟩ := nstep_inv N _ 16 a3 (by omega)
  obtain ⟨a5, b5⟩ := nstep_inv N _ 8 a4 (by omega)
  obtain ⟨a6, b6⟩ := nstep_inv N _ 4 a5 (by omega)
  obtain ⟨a7, b7⟩ := nstep_inv N _ 2 a6 (by omega)
  obtain ⟨a8, b8⟩ := nstep_inv N _ 1 a7 (by omega)
  omega

/-- The reference's threshold: a block's largest magnitude over the largest code, with a subnormal quotient read as zero. -/
def tR (M : EReal) : EReal :=
  if M * Ideal.ofBits .f32 991054117#32 < Ideal.ofBits .f32 8388608#32 then 0 else M * Ideal.ofBits .f32 991054117#32

/-- The kernel's threshold: one half for a subnormal quotient, and no more than the cap. -/
def tK (M : EReal) : EReal :=
  min (if M * Ideal.ofBits .f32 991054117#32 < Ideal.ofBits .f32 8388608#32 then Ideal.ofBits .f32 1056964608#32
    else M * Ideal.ofBits .f32 991054117#32) (Ideal.ofBits .f32 2067791872#32)

/-- The reference's exponent: the number of powers of two from `2 ^ -126` up that the threshold reaches, less 126. -/
def eR (M : EReal) : EReal :=
  if tR M = 0 then 0 else
    (∑ i : Fin 246, if (FloatOps.exp2 (F := Ideal) (φ := .f32) (FloatOps.sitofp .f32 (BitVec.ofNat 32 i.val) -
      Ideal.ofBits .f32 1123811328#32) : EReal) ≤ tR M then (1 : EReal) else 0) - Ideal.ofBits .f32 1123811328#32

/-- The block's scale. -/
def SC (M : EReal) : EReal := FloatOps.exp2 (F := Ideal) (φ := .f32) (eR M)

/-- The inverse of the block's scale. -/
def IV (M : EReal) : EReal := FloatOps.exp2 (F := Ideal) (φ := .f32) (0 - eR M)

theorem exp2_int (n : ℤ) : FloatOps.exp2 (F := Ideal) (φ := .f32) ((((n : ℤ) : ℝ) : ℝ) : EReal) =
    (((2 : ℝ) ^ n : ℝ) : EReal) := by
  change ((Real.rpow 2 (n : ℝ) : ℝ) : EReal) = _
  congr 1
  exact Real.rpow_intCast 2 n

theorem pow2_le (a b : ℤ) : ((((2 : ℝ) ^ a : ℝ) : EReal) ≤ (((2 : ℝ) ^ b : ℝ) : EReal)) ↔ a ≤ b := by
  rw [EReal.coe_le_coe_iff]
  exact zpow_le_zpow_iff_right₀ (by norm_num)

/-- The power of two the reference compares the threshold with at position `i`. -/
theorem rung (i : Fin 246) : (FloatOps.exp2 (F := Ideal) (φ := .f32) (FloatOps.sitofp .f32 (BitVec.ofNat 32 i.val) -
      Ideal.ofBits .f32 1123811328#32) : EReal) = (((2 : ℝ) ^ ((i.val : ℤ) - 126) : ℝ) : EReal) := by
  have h : (FloatOps.sitofp (F := Ideal) .f32 (BitVec.ofNat 32 i.val) : EReal) = (((i.val : ℤ) : ℝ) : EReal) := by
    change ((((BitVec.ofNat 32 i.val).toInt : ℤ) : ℝ) : EReal) = _
    congr 2
    have := i.isLt
    rw [BitVec.toInt_eq_toNat_of_lt (by rw [BitVec.toNat_ofNat]; omega), BitVec.toNat_ofNat, Nat.mod_eq_of_lt (by omega)]
  rw [← exp2_int, h, c_126, ← EReal.coe_sub]
  congr 2
  push_cast
  ring

/-- A downward-closed property of the numbers below a bound is a comparison with a level. -/
theorem exists_level (n : ℕ) (p : ℕ → Prop) (hp : ∀ i j, i ≤ j → p j → p i) : ∃ N ≤ n, ∀ i < n, (p i ↔ i < N) := by
  induction n with
  | zero => exact ⟨0, le_refl _, fun i h => absurd h (by omega)⟩
  | succ n ih =>
    obtain ⟨N, hN, h⟩ := ih
    by_cases hq : p n
    · refine ⟨n + 1, le_refl _, fun i hi => ⟨fun _ => hi, fun _ => hp i n (by omega) hq⟩⟩
    · refine ⟨N, by omega, fun i hi => ?_⟩
      rcases Nat.lt_succ_iff_lt_or_eq.1 hi with h' | rfl
      · exact h i h'
      · exact ⟨fun h' => absurd h' hq, fun h' => by omega⟩

theorem sum_level (N : ℕ) (hN : N ≤ 246) : (∑ i : Fin 246, if i.val < N then (1 : EReal) else 0) = ((N : ℝ) : EReal) := by
  rw [Finset.sum_ite, Finset.sum_const_zero, add_zero, Finset.sum_const]
  have : (Finset.univ.filter fun i : Fin 246 => i.val < N).card = N := by
    rw [Fin.card_filter_val_lt]
    omega
  rw [this]
  simp

/-- The level of a block: the exponent field the search finds, and what the reference's exponent is. -/
theorem level (M : EReal) : ∃ N : ℕ, N ≤ 246 ∧ searchS (tK M) = expWord N ∧ eR M = (((N : ℤ) - 126 : ℤ) : ℝ) := by
  by_cases hA : M * Ideal.ofBits .f32 991054117#32 < Ideal.ofBits .f32 8388608#32
  · refine ⟨126, by omega, searchS_eq _ _ (by omega) ?_, ?_⟩
    · intro k hk
      have ht : tK M = (((2 : ℝ) ^ (-1 : ℤ) : ℝ) : EReal) := by
        unfold tK
        rw [if_pos hA, c_half, c_cap]
        refine min_eq_left ?_
        rw [EReal.coe_le_coe_iff]
        norm_num
      rw [ht]
      rcases Nat.eq_zero_or_pos k with rfl | h0
      · rw [expWord_zero]
        refine ⟨fun _ => by omega, fun _ => ?_⟩
        rw [← EReal.coe_zero, EReal.coe_le_coe_iff]
        positivity
      · rcases Nat.lt_or_ge k 255 with h | h
        · rw [expWord_val k h0 (by omega), pow2_le]
          omega
        · obtain rfl : k = 255 := by omega
          rw [expWord_top]
          refine ⟨fun h => absurd (top_le_iff.1 h) (EReal.coe_ne_top _), fun h => by omega⟩
    · unfold eR
      have : tR M = 0 := by unfold tR; rw [if_pos hA]
      rw [if_pos this]
      norm_num
  · have hA' := not_lt.1 hA
    have htR : tR M = M * Ideal.ofBits .f32 991054117#32 := by unfold tR; rw [if_neg hA]
    generalize ht0 : M * Ideal.ofBits .f32 991054117#32 = t0 at *
    obtain ⟨N, hN, hl⟩ := exists_level 246 (fun i => (((2 : ℝ) ^ ((i : ℤ) - 126) : ℝ) : EReal) ≤ t0)
      (fun i j hij h => le_trans ((pow2_le _ _).2 (by omega)) h)
    have hpos : 0 < N := (hl 0 (by omega)).1 (by rw [c_tiny] at hA'; simpa using hA')
    have hne : tR M ≠ 0 := by
      rw [htR]
      refine ne_of_gt (lt_of_lt_of_le ?_ hA')
      rw [c_tiny, ← EReal.coe_zero, EReal.coe_lt_coe_iff]
      positivity
    refine ⟨N, hN, searchS_eq _ _ (by omega) ?_, ?_⟩
    · intro k hk
      have ht : tK M = min t0 ((1.5 * (2 : ℝ) ^ (119 : ℤ) : ℝ) : EReal) := by
        unfold tK
        rw [ht0, if_neg hA, c_cap]
      rw [ht, le_min_iff]
      rcases Nat.eq_zero_or_pos k with rfl | h0
      · rw [expWord_zero]
        refine ⟨fun _ => by omega, fun _ => ⟨le_trans ?_ hA', ?_⟩⟩
        · rw [c_tiny, ← EReal.coe_zero, EReal.coe_le_coe_iff]
          positivity
        · rw [← EReal.coe_zero, EReal.coe_le_coe_iff]
          positivity
      · rcases Nat.lt_or_ge k 255 with h | h
        · rw [expWord_val k h0 (by omega)]
          rcases Nat.lt_or_ge k 247 with h' | h'
          · have hcap : (((2 : ℝ) ^ ((k : ℤ) - 127) : ℝ) : EReal) ≤ ((1.5 * (2 : ℝ) ^ (119 : ℤ) : ℝ) : EReal) := by
              refine le_trans ((pow2_le _ 119).2 (by omega)) ?_
              rw [EReal.coe_le_coe_iff]
              norm_num
            have hk1 := hl (k - 1) (by omega)
            have hc : (((k - 1 : ℕ) : ℤ) - 126) = (k : ℤ) - 127 := by omega
            rw [hc] at hk1
            rw [hk1]
            constructor
            · intro h; omega
            · intro h; exact ⟨by omega, hcap⟩
          · refine ⟨fun h2 => ?_, fun h2 => by omega⟩
            have h3 := le_trans ((pow2_le 120 ((k : ℤ) - 127)).2 (by omega)) h2.2
            rw [EReal.coe_le_coe_iff] at h3
            norm_num at h3
        · obtain rfl : k = 255 := by omega
          rw [expWord_top]
          refine ⟨fun h => absurd (top_le_iff.1 h.2) (EReal.coe_ne_top _), fun h => by omega⟩
    · unfold eR
      rw [if_neg hne, htR]
      have hs : (∑ i : Fin 246, if (FloatOps.exp2 (F := Ideal) (φ := .f32) (FloatOps.sitofp .f32 (BitVec.ofNat 32 i.val) -
          Ideal.ofBits .f32 1123811328#32) : EReal) ≤ t0 then (1 : EReal) else 0) =
          ∑ i : Fin 246, if i.val < N then (1 : EReal) else 0 := by
        refine Finset.sum_congr rfl fun i _ => ?_
        rw [rung]
        exact if_congr (hl i.val i.isLt) rfl rfl
      rw [hs, sum_level N hN, c_126, ← EReal.coe_sub]
      congr 1
      push_cast
      ring

/-- The exponent word one above the one found by the search is the reference's scale. -/
theorem scale_eq (M : EReal) : Ideal.ofBits .f32 (IntOp.addi (searchS (tK M)) 8388608#32) = SC M := by
  obtain ⟨N, hN, hs, he⟩ := level M
  have e : IntOp.addi (expWord N) 8388608#32 = expWord (N + 1) := by
    unfold IntOp.addi expWord
    rw [← BitVec.ofNat_add]
    congr 1
  unfold SC
  rw [hs, he, e, exp2_int, expWord_val _ (by omega) (by omega),
    show ((N + 1 : ℕ) : ℤ) - 127 = (N : ℤ) - 126 by omega]

/-- The exponent word mirrored at 253 is the inverse of the reference's scale. -/
theorem inv_eq (M : EReal) : Ideal.ofBits .f32 (IntOp.subi 2122317824#32 (searchS (tK M))) = IV M := by
  obtain ⟨N, hN, hs, he⟩ := level M
  have e : IntOp.subi 2122317824#32 (expWord N) = expWord (253 - N) := by
    have h1 : expWord 253 = expWord (253 - N) + expWord N := by
      unfold expWord
      rw [← BitVec.ofNat_add]
      congr 1
      omega
    change expWord 253 - expWord N = _
    rw [h1, BitVec.add_sub_cancel]
  have h0 : (0 : EReal) - ((((N : ℤ) - 126 : ℤ) : ℝ) : EReal) = (((126 - (N : ℤ) : ℤ) : ℝ) : EReal) := by
    rw [← EReal.coe_zero, ← EReal.coe_sub]
    congr 1
    push_cast
    ring
  unfold IV
  rw [hs, he, e, h0, exp2_int, expWord_val _ (by omega) (by omega),
    show ((253 - N : ℕ) : ℤ) - 127 = 126 - (N : ℤ) by omega]

end Cert.Math
end
-- ==== Proof.Math.Elu.lean ====
module

public import Idealize.ShloMosaic.PureOps.Ideal

/-!
The activation written two ways, and sums over a long axis read as sums over its pieces. Plain facts of extended reals.
-/

@[expose] public section

noncomputable section

namespace Cert.Math

open Idealize.ShloMosaic

/-- The activation: the value if positive, else its exponential less one. -/
def elu (v : EReal) : EReal := if 0 < v then v else FloatOps.exp (F := Ideal) (φ := .f32) v - 1

theorem tanh_half (r : ℝ) : Real.tanh (r * (1 / 2)) * (Real.exp r + 1) = Real.exp r - 1 := by
  have e : Real.exp r = Real.exp (r * (1 / 2)) * Real.exp (r * (1 / 2)) := by
    rw [← Real.exp_add]; congr 1; ring
  have hp := Real.exp_pos (r * (1 / 2))
  have hq := Real.exp_pos (-(r * (1 / 2)))
  have h1 : Real.exp (-(r * (1 / 2))) * Real.exp (r * (1 / 2)) = 1 := by rw [← Real.exp_add]; simp
  rw [Real.tanh_eq, e]
  generalize Real.exp (r * (1 / 2)) = a at *
  generalize Real.exp (-(r * (1 / 2))) = b at *
  field_simp
  linear_combination (-2 * a) * h1

theorem half_val : Ideal.ofBits .f32 1056964608#32 = (((1 / 2 : ℝ)) : EReal) := by
  simp [Ideal.ofBits, Ideal.ieee, -EReal.coe_mul]; norm_num

/-- The kernel's activation, a maximum with `tanh (v / 2) * (exp v + 1)` at the lesser of `v` and zero, is the activation. -/
theorem elu_eq (v : EReal) :
    max v (FloatOps.tanh (F := Ideal) (φ := .f32) (min v 0 * Ideal.ofBits .f32 1056964608#32) *
      (FloatOps.exp (F := Ideal) (φ := .f32) (min v 0) + 1)) = elu v := by
  unfold elu
  rw [half_val]
  induction v with
  | bot =>
    rw [min_eq_left bot_le, EReal.bot_mul_coe_of_pos (by norm_num), if_neg (not_lt.2 bot_le)]
    change max ⊥ ((-1 : EReal) * ((0 : EReal) + 1)) = (0 : EReal) - 1
    rw [max_eq_right bot_le, zero_add, mul_one, zero_sub]
  | top =>
    rw [min_eq_right le_top, if_pos (by simp)]
    exact max_eq_left le_top
  | coe r =>
    by_cases h : 0 < r
    · rw [if_pos (by exact_mod_cast h), min_eq_right (by exact_mod_cast h.le), zero_mul]
      change max (r : EReal) (((Real.tanh 0 : ℝ) : EReal) * _) = _
      rw [Real.tanh_zero, EReal.coe_zero, zero_mul]
      exact max_eq_left (by exact_mod_cast h.le)
    · rw [if_neg (by simpa using h), min_eq_left (by simpa using h), ← EReal.coe_mul]
      change max (r : EReal) (((Real.tanh (r * (1 / 2)) : ℝ) : EReal) * (((Real.exp r : ℝ) : EReal) + 1)) =
        ((Real.exp r : ℝ) : EReal) - 1
      rw [← EReal.coe_one, ← EReal.coe_add, ← EReal.coe_mul, tanh_half, ← EReal.coe_sub]
      refine max_eq_right ?_
      rw [EReal.coe_le_coe_iff]
      have := Real.add_one_le_exp r
      linarith

/-- A sum over three pieces of 1024 laid end to end, read piece within position. -/
theorem sum_3072 (f : Fin 3 → Fin 1024 → EReal) :
    (∑ x : Fin 3072, f ⟨x.val / 1024, by omega⟩ ⟨x.val % 1024, Nat.mod_lt _ (by norm_num)⟩) =
      ∑ c : Fin 1024, ∑ k : Fin 3, f k c := by
  rw [Finset.sum_comm, ← Fintype.sum_prod_type' (f := fun (k : Fin 3) (c : Fin 1024) => f k c)]
  refine Fintype.sum_equiv (finProdFinEquiv (m := 3) (n := 1024)).symm _ _ fun x => ?_
  rfl

end Cert.Math
end
-- ==== Proof.Math.Spec.lean ====
module

public import proofs.«01_k».proof.Proof.Math.Scale
public import proofs.«01_k».proof.Proof.Math.Elu

/-!
One layer of the network on extended reals, as plain functions of an activation and the layer's parameters, and the activations
of the layers in turn. Both programs are read into these functions.
-/

@[expose] public section

noncomputable section

namespace Cert.Math

open Idealize.ShloMosaic

/-- An activation: batch element, row, channel. -/
abbrev Act := Fin 24 → Fin 40 → Fin 1024 → EReal

/-- The largest magnitude in block `j` of 128 channels of row `s`. -/
def mx (a : Act) (b : Fin 24) (s : Fin 40) (j : Fin 8) : EReal :=
  Finset.fold max (Ideal.ofBits .f32 4286578688#32)
    (fun x : Fin 128 => FloatOps.absf (F := Ideal) (φ := .f32) (a b s ⟨j.val * 128 + x.val, by omega⟩)) Finset.univ

/-- The block of a channel. -/
def bk (c : Fin 1024) : Fin 8 := ⟨c.val / 128, by omega⟩

/-- The scale of a block. -/
def scale (a : Act) (b : Fin 24) (s : Fin 40) (j : Fin 8) : EReal := SC (mx a b s j)

/-- The code of a channel: its value over its block's scale, clipped to the largest code. -/
def code (a : Act) (b : Fin 24) (s : Fin 40) (c : Fin 1024) : EReal :=
  min (Ideal.ofBits .f32 1138753536#32) (max (Ideal.ofBits .f32 3286237184#32) (a b s c * IV (mx a b s (bk c))))

/-- The codes with the two carried rows before them. -/
def codes (a : Act) (sc : Fin 24 → Fin 2 → Fin 1024 → EReal) (b : Fin 24) (r : Fin 42) (c : Fin 1024) : EReal :=
  if h : r.val < 2 then sc b ⟨r.val, h⟩ c else code a b ⟨r.val - 2, by omega⟩ c

/-- The scales with the two carried rows before them. -/
def scales (a : Act) (ss : Fin 24 → Fin 2 → Fin 8 → EReal) (b : Fin 24) (r : Fin 42) (j : Fin 8) : EReal :=
  if h : r.val < 2 then ss b ⟨r.val, h⟩ j else scale a b ⟨r.val - 2, by omega⟩ j

/-- The dequantised rows. -/
def deq (a : Act) (sc : Fin 24 → Fin 2 → Fin 1024 → EReal) (ss : Fin 24 → Fin 2 → Fin 8 → EReal) (b : Fin 24) (r : Fin 42)
    (c : Fin 1024) : EReal :=
  codes a sc b r c * scales a ss b r (bk c)

/-- The layer before its activation: the causal convolution of width three, scaled and shifted by channel. -/
def pre (a : Act) (sc : Fin 24 → Fin 2 → Fin 1024 → EReal) (ss : Fin 24 → Fin 2 → Fin 8 → EReal)
    (w : Fin 3 → Fin 1024 → Fin 1024 → EReal) (ws bb : Fin 1024 → EReal) : Act := fun b s j =>
  (∑ c : Fin 1024, ∑ k : Fin 3, deq a sc ss b ⟨k.val + s.val, by omega⟩ c * w k c j) * ws j + bb j

/-- The layer. -/
def next (a : Act) (sc : Fin 24 → Fin 2 → Fin 1024 → EReal) (ss : Fin 24 → Fin 2 → Fin 8 → EReal)
    (w : Fin 3 → Fin 1024 → Fin 1024 → EReal) (ws bb : Fin 1024 → EReal) : Act := fun b s j =>
  elu (pre a sc ss w ws bb b s j)

/-- The last two rows of the codes, carried out. -/
def ncode (a : Act) (b : Fin 24) (s : Fin 2) (c : Fin 1024) : EReal := code a b ⟨38 + s.val, by omega⟩ c

/-- The last two rows of the scales, carried out. -/
def nscale (a : Act) (b : Fin 24) (s : Fin 2) (j : Fin 8) : EReal := scale a b ⟨38 + s.val, by omega⟩ j

end Cert.Math
end
-- ==== Proof.PI.Scalar.lean ====
module

public import proofs.«01_k».proof.Proof.PI.Blocks
public import proofs.«01_k».proof.Proof.Math.Spec
public import Idealize.ShloMosaic.Lib.Pointwise

/-!
What the kernel's two loops write, read at an index as the functions of the specification.
-/

@[expose] public section

set_option maxRecDepth 16384

noncomputable section

namespace Cert.KernelIdeal.Value

open Cert.KernelIdeal Cert.KernelIdeal.Gen
open Idealize.ShloMosaic
open Cert.Math (Act mx bk scale code codes scales deq pre next ncode nscale tK stepS searchS SC IV elu elu_eq scale_eq inv_eq)

/-- A vector read as a function of its three coordinates. -/
def kact (a : Vec Ideal S24x40x1024 .f32) : Act := fun b s c => a (ix3 b s c)

/-- The largest magnitude of a row of a block of 128 channels. -/
def bmx (b : Vec Ideal S1x40x128 .f32) (s : Fin 40) : EReal :=
  Finset.fold max (Ideal.ofBits .f32 4286578688#32)
    (fun x : Fin 128 => FloatOps.absf (F := Ideal) (φ := .f32) (b (ix3 0 s x))) Finset.univ

theorem bmx_blk (a : Vec Ideal S24x40x1024 .f32) (k : Fin 24) (j : Fin 8) (s : Fin 40) :
    bmx (blk a k j) s = mx (kact a) k s j := by
  unfold bmx mx
  congr 1
  funext x
  refine congrArg (fun e => FloatOps.absf (F := Ideal) (φ := .f32) e) ?_
  refine congrArg (fun i : Fin 1024 => a (ix3 k s i)) (Fin.ext ?_)
  change 128 * j.val + x.val = j.val * 128 + x.val
  omega

theorem at6 (b : Vec Ideal S1x40x128 .f32) (s : Fin 40) (c : Fin 128) : k0_pay6 b (ix2 s c) = b (ix3 0 s c) := by
  pointwise [k0_pay6]

theorem at7 (b : Vec Ideal S1x40x128 .f32) (s : Fin 40) : k0_pay7 b (ix2 s 0) = tK (bmx b s) := by
  pointwise [k0_pay7, k0_pay6]
  rfl

/-- One step of the search on every row. -/
def stepV (t : FVec Ideal S40x1 .f32) (e : IVec S40x1 32) (b : BitVec 32) : IVec S40x1 32 :=
  select (cmpf .ole (bitcastToFloat .f32 (addi e (broadcast S40x1 b))) t) (addi e (broadcast S40x1 b)) e

theorem step_at (t : FVec Ideal S40x1 .f32) (e : IVec S40x1 32) (b : BitVec 32) (s : Fin 40) :
    stepV t e b (ix2 s 0) = stepS (t (ix2 s 0)) (e (ix2 s 0)) b := by
  pointwise [stepV]
  rfl

theorem pay9_eq (t : FVec Ideal S40x1 .f32) (e : IVec S40x1 32) :
    k0_pay9 t e = stepV t (stepV t e 16777216#32) 8388608#32 := rfl

theorem pay8_eq (v : Vec Ideal S1x40x128 .f32) :
    k0_pay8 v = stepV (k0_pay7 v) (stepV (k0_pay7 v) (stepV (k0_pay7 v) (stepV (k0_pay7 v) (stepV (k0_pay7 v)
      (stepV (k0_pay7 v) (broadcast S40x1 0#32) 1073741824#32) 536870912#32) 268435456#32) 134217728#32) 67108864#32)
      33554432#32 := by
  unfold k0_pay8
  rfl

/-- The word the kernel's search ends with. -/
theorem at9 (b : Vec Ideal S1x40x128 .f32) (s : Fin 40) :
    k0_pay9 (k0_pay7 b) (k0_pay8 b) (ix2 s 0) = searchS (tK (bmx b s)) := by
  rw [pay9_eq, pay8_eq]
  simp only [step_at, at7]
  rfl

theorem at10' (t : FVec Ideal S40x1 .f32) (e : IVec S40x1 32) (s : Fin 40) :
    k0_pay10 t e (ix2 s 0) = Ideal.ofBits .f32 (IntOp.addi (k0_pay9 t e (ix2 s 0)) 8388608#32) := by
  pointwise [k0_pay10]

theorem at11' (v : FVec Ideal S40x128 .f32) (t : FVec Ideal S40x1 .f32) (e : IVec S40x1 32) (s : Fin 40) (c : Fin 128) :
    k0_pay11 v t e (ix2 s c) = min (Ideal.ofBits .f32 1138753536#32) (max (Ideal.ofBits .f32 3286237184#32)
      (v (ix2 s c) * Ideal.ofBits .f32 (IntOp.subi 2122317824#32 (k0_pay9 t e (ix2 s 0))))) := by
  pointwise [k0_pay11]

/-- The scale of a row of a block. -/
theorem at10 (b : Vec Ideal S1x40x128 .f32) (s : Fin 40) :
    k0_pay10 (k0_pay7 b) (k0_pay8 b) (ix2 s 0) = SC (bmx b s) := by
  rw [at10', at9, scale_eq]

/-- The code of a channel of a block. -/
theorem at11 (b : Vec Ideal S1x40x128 .f32) (s : Fin 40) (c : Fin 128) :
    k0_pay11 (k0_pay6 b) (k0_pay7 b) (k0_pay8 b) (ix2 s c) = min (Ideal.ofBits .f32 1138753536#32)
      (max (Ideal.ofBits .f32 3286237184#32) (b (ix3 0 s c) * IV (bmx b s))) := by
  rw [at11', at9, inv_eq, at6]

theorem scale_blk (a : Vec Ideal S24x40x1024 .f32) (k : Fin 24) (j : Fin 8) (s : Fin 40) :
    k0_pay10 (k0_pay7 (blk a k j)) (k0_pay8 (blk a k j)) (ix2 s 0) = scale (kact a) k s j := by
  rw [at10, bmx_blk]; rfl

theorem code_blk (a : Vec Ideal S24x40x1024 .f32) (k : Fin 24) (c : Fin 1024) (s : Fin 40) :
    k0_pay11 (k0_pay6 (blk a k (jOf c))) (k0_pay7 (blk a k (jOf c))) (k0_pay8 (blk a k (jOf c))) (ix2 s (cOf c)) =
      code (kact a) k s c := by
  rw [at11, bmx_blk]
  have h : blk a k (jOf c) (ix3 0 s (cOf c)) = kact a k s c := by
    change a (ix3 k s ⟨128 * (c.val / 128) + c.val % 128, _⟩) = a (ix3 k s c)
    congr 2
    exact Fin.ext (Nat.div_add_mod _ _)
  rw [h]
  rfl

theorem at12 (v : FVec Ideal S40x128 .f32) (t : FVec Ideal S40x1 .f32) (e : IVec S40x1 32) (s : Fin 40) (c : Fin 128) :
    k0_pay12 v t e (ix4 0 0 s c) = k0_pay11 v t e (ix2 s c) := by
  pointwise [k0_pay12]

theorem at13 (t : FVec Ideal S40x1 .f32) (e : IVec S40x1 32) (s : Fin 40) :
    k0_pay13 t e (ix4 0 0 s 0) = k0_pay10 t e (ix2 s 0) := by
  pointwise [k0_pay13]

theorem at14 (u : Vec Ideal S1x1x2x128 .fp8e4m3) (s : Fin 2) (c : Fin 128) : k0_pay14 u (ix2 s c) = u (ix4 0 0 s c) := by
  pointwise [k0_pay14]

theorem at15 (v : FVec Ideal S40x128 .f32) (t : FVec Ideal S40x1 .f32) (e : IVec S40x1 32) (s : Fin 2) (c : Fin 128) :
    k0_pay15 v t e (ix2 s c) = k0_pay11 v t e (ix2 ⟨38 + s.val, by omega⟩ c) := by
  pointwise [k0_pay15]

theorem at16 (q : FVec Ideal S2x128 .fp8e4m3) (s : Fin 2) (c : Fin 128) : k0_pay16 q (ix4 0 0 s c) = q (ix2 s c) := by
  pointwise [k0_pay16]

theorem at17 (x : FVec Ideal S40x1 .f32) (s : Fin 2) :
    k0_pay17 x (ix4 0 0 s 0) = x (ix2 ⟨38 + s.val, by omega⟩ 0) := by
  pointwise [k0_pay17]

/-- The kernel's codes are the specification's. -/
theorem G8_at (a : Vec Ideal S24x40x1024 .f32) (z : Fin 1) (b : Fin 24) (s : Fin 40) (c : Fin 1024) :
    G8 a (ix4 z b s c) = code (kact a) b s c := (at12 _ _ _ _ _).trans (code_blk a b c s)

/-- The kernel's scales are the specification's. -/
theorem G9_at (a : Vec Ideal S24x40x1024 .f32) (z : Fin 1) (b : Fin 24) (s : Fin 40) (j : Fin 8) :
    G9 a (ix4 z b s j) = scale (kact a) b s j := (at13 _ _ _).trans (scale_blk a b j s)

/-- The codes the kernel carries out are the specification's. -/
theorem G10_at (a : Vec Ideal S24x40x1024 .f32) (z : Fin 1) (b : Fin 24) (s : Fin 2) (c : Fin 1024) :
    G10 a (ix4 z b s c) = ncode (kact a) b s c := (at16 _ _ _).trans ((at15 _ _ _ _ _).trans (code_blk a b c _))

/-- The scales the kernel carries out are the specification's. -/
theorem G11_at (a : Vec Ideal S24x40x1024 .f32) (z : Fin 1) (b : Fin 24) (s : Fin 2) (j : Fin 8) :
    G11 a (ix4 z b s j) = nscale (kact a) b s j := (at17 _ _).trans (scale_blk a b j _)

theorem at19 (s : FVec Ideal S40x1 .f32) (q : FVec Ideal S40x128 .fp8e4m3) (u : FVec Ideal S2x128 .f32)
    (v : Vec Ideal S1x1x2x1 .f32) (y : Fin 40) (c : Fin 128) : k0_pay19 s q u v (ix3 0 y c) =
      if h : 0 + y.val < 2 then u (ix2 ⟨0 + y.val, h⟩ c) * v (ix4 0 0 ⟨0 + y.val, h⟩ 0)
      else q (ix2 ⟨0 + y.val - 2, by omega⟩ c) * s (ix2 ⟨0 + y.val - 2, by omega⟩ 0) := by
  pointwise [k0_pay19, k0_pay18]
  try rfl

theorem at20 (s : FVec Ideal S40x1 .f32) (q : FVec Ideal S40x128 .fp8e4m3) (u : FVec Ideal S2x128 .f32)
    (v : Vec Ideal S1x1x2x1 .f32) (y : Fin 40) (c : Fin 128) : k0_pay20 s q u v (ix3 0 y c) =
      if h : 1 + y.val < 2 then u (ix2 ⟨1 + y.val, h⟩ c) * v (ix4 0 0 ⟨1 + y.val, h⟩ 0)
      else q (ix2 ⟨1 + y.val - 2, by omega⟩ c) * s (ix2 ⟨1 + y.val - 2, by omega⟩ 0) := by
  pointwise [k0_pay20, k0_pay18]
  try rfl

theorem at21 (s : FVec Ideal S40x1 .f32) (q : FVec Ideal S40x128 .fp8e4m3) (u : FVec Ideal S2x128 .f32)
    (v : Vec Ideal S1x1x2x1 .f32) (y : Fin 40) (c : Fin 128) : k0_pay21 s q u v (ix3 0 y c) =
      if h : 2 + y.val < 2 then u (ix2 ⟨2 + y.val, h⟩ c) * v (ix4 0 0 ⟨2 + y.val, h⟩ 0)
      else q (ix2 ⟨2 + y.val - 2, by omega⟩ c) * s (ix2 ⟨2 + y.val - 2, by omega⟩ 0) := by
  pointwise [k0_pay21, k0_pay18]
  try rfl

/-- A layer's carried codes as a function of their coordinates. -/
def ksc (sc : Vec Ideal S1x24x2x1024 .fp8e4m3) : Fin 24 → Fin 2 → Fin 1024 → EReal := fun b s c => sc (ix4 0 b s c)

/-- A layer's carried scales as a function of their coordinates. -/
def kss (ss : Vec Ideal S1x24x2x8 .f32) : Fin 24 → Fin 2 → Fin 8 → EReal := fun b s j => ss (ix4 0 b s j)

theorem scblk_at (sc : Vec Ideal S1x24x2x1024 .fp8e4m3) (b : Fin 24) (s : Fin 2) (c : Fin 1024) :
    k0_pay14 (scblk sc b (jOf c)) (ix2 s (cOf c)) = ksc sc b s c := by
  rw [at14]
  change sc (ix4 0 b s ⟨128 * (c.val / 128) + c.val % 128, _⟩) = sc (ix4 0 b s c)
  congr 2
  exact Fin.ext (Nat.div_add_mod _ _)

/-- One of the three shifted copies is the dequantised rows, shifted. -/
theorem shifted (a : Vec Ideal S24x40x1024 .f32) (sc : Vec Ideal S1x24x2x1024 .fp8e4m3) (ss : Vec Ideal S1x24x2x8 .f32)
    (b : Fin 24) (r : Fin 42) (c : Fin 1024) :
    (if h : r.val < 2 then k0_pay14 (scblk sc b (jOf c)) (ix2 ⟨r.val, h⟩ (cOf c)) * ssblk ss b (jOf c) (ix4 0 0 ⟨r.val, h⟩ 0)
      else k0_pay11 (k0_pay6 (blk a b (jOf c))) (k0_pay7 (blk a b (jOf c))) (k0_pay8 (blk a b (jOf c)))
          (ix2 ⟨r.val - 2, by omega⟩ (cOf c)) *
        k0_pay10 (k0_pay7 (blk a b (jOf c))) (k0_pay8 (blk a b (jOf c))) (ix2 ⟨r.val - 2, by omega⟩ 0)) =
      deq (kact a) (ksc sc) (kss ss) b r c := by
  unfold deq codes scales
  split
  · rw [scblk_at]; rfl
  · rw [code_blk, scale_blk]; rfl

/-- The three rows side by side are the dequantised rows, each shifted by its place. -/
theorem G13_at (a : Vec Ideal S24x40x1024 .f32) (sc : Vec Ideal S1x24x2x1024 .fp8e4m3) (ss : Vec Ideal S1x24x2x8 .f32)
    (b : Fin 24) (s : Fin 40) (x : Fin 3072) :
    G13 a sc ss (ix3 b s x) =
      deq (kact a) (ksc sc) (kss ss) b ⟨x.val / 1024 + s.val, by omega⟩ ⟨x.val % 1024, Nat.mod_lt _ (by norm_num)⟩ := by
  rw [← shifted]
  change (if x.val < 1024 then _ else if x.val < 2048 then _ else _) = _
  split
  · have h : x.val / 1024 = 0 := by omega
    simp only [h]
    exact at19 _ _ _ _ _ _
  · split
    · have h : x.val / 1024 = 1 := by omega
      simp only [h]
      exact at20 _ _ _ _ _ _
    · have h : x.val / 1024 = 2 := by omega
      simp only [h]
      exact at21 _ _ _ _ _ _

theorem at5 (v5 v7 : Vec Ideal S1x1024 .f32) (p : Vec Ideal S2x40x3072 .bf16) (w : Vec Ideal S1x3x1024x1024 .fp8e4m3) (r : Fin 2)
    (y : Fin 40) (c : Fin 1024) : k0_pay5 v5 v7 p w (ix3 r y c) =
      (∑ x : Fin 3072, p (ix3 r y x) * w (ix4 0 ⟨x.val / 1024, by omega⟩ ⟨x.val % 1024, Nat.mod_lt _ (by norm_num)⟩ c)) *
        v5 (ix2 0 c) + v7 (ix2 0 c) := by
  pointwise [k0_pay5, k0_pay3]

theorem at5' (v5 v7 : Vec Ideal S1x1024 .f32) (p : Vec Ideal S2x40x3072 .bf16) (w : Vec Ideal S1x3x1024x1024 .fp8e4m3) (r : Fin 2)
    (y : Fin 40) (c : Fin 1024) : k0_pay5 v5 v7 p w (ix3 r y c) = k0_pay3 v5 v7 p w (ix2 ⟨r.val * 40 + y.val, by omega⟩ c) := by
  pointwise [k0_pay5]

theorem at4 (v5 v7 : Vec Ideal S1x1024 .f32) (p : Vec Ideal S2x40x3072 .bf16) (w : Vec Ideal S1x3x1024x1024 .fp8e4m3) (r : Fin 2)
    (y : Fin 40) (c : Fin 1024) : k0_pay4 v5 v7 p w (ix3 r y c) = elu (k0_pay5 v5 v7 p w (ix3 r y c)) := by
  rw [← elu_eq, at5']
  pointwise [k0_pay4]

/-- A layer's weights as a function of their coordinates. -/
def kw (w : Vec Ideal S1x3x1024x1024 .fp8e4m3) : Fin 3 → Fin 1024 → Fin 1024 → EReal := fun k c j => w (ix4 0 k c j)

/-- A row of a parameter as a function of the channel. -/
def krow (v : Vec Ideal S1x1024 .f32) : Fin 1024 → EReal := fun j => v (ix2 0 j)

/-- What the last layer writes is the specification's layer before its activation. -/
theorem G7_at (a : Vec Ideal S24x40x1024 .f32) (sc : Vec Ideal S1x24x2x1024 .fp8e4m3) (ss : Vec Ideal S1x24x2x8 .f32)
    (v5 v7 : Vec Ideal S1x1024 .f32) (w : Vec Ideal S1x3x1024x1024 .fp8e4m3) (b : Fin 24) (s : Fin 40) (j : Fin 1024) :
    G7 v5 v7 (G13 a sc ss) w (ix3 b s j) = pre (kact a) (ksc sc) (kss ss) (kw w) (krow v5) (krow v7) b s j := by
  refine (at5 v5 v7 (pblk (G13 a sc ss) (kOf b)) w (rOf b) s j).trans ?_
  unfold pre
  congr 2
  rw [← Cert.Math.sum_3072 fun k c => deq (kact a) (ksc sc) (kss ss) b ⟨k.val + s.val, by omega⟩ c * kw w k c j]
  refine Finset.sum_congr rfl fun x _ => ?_
  have h : pblk (G13 a sc ss) (kOf b) (ix3 (rOf b) s x) = G13 a sc ss (ix3 b s x) := by
    change G13 a sc ss (ix3 ⟨2 * (b.val / 2) + b.val % 2, _⟩ s x) = _
    congr 2
    exact Fin.ext (Nat.div_add_mod _ _)
  rw [h, G13_at]
  rfl

/-- What any other layer writes is the specification's layer. -/
theorem G12_at (a : Vec Ideal S24x40x1024 .f32) (sc : Vec Ideal S1x24x2x1024 .fp8e4m3) (ss : Vec Ideal S1x24x2x8 .f32)
    (v5 v7 : Vec Ideal S1x1024 .f32) (w : Vec Ideal S1x3x1024x1024 .fp8e4m3) (b : Fin 24) (s : Fin 40) (j : Fin 1024) :
    G12 v5 v7 (G13 a sc ss) w (ix3 b s j) = next (kact a) (ksc sc) (kss ss) (kw w) (krow v5) (krow v7) b s j :=
  (at4 v5 v7 (pblk (G13 a sc ss) (kOf b)) w (rOf b) s j).trans (congrArg elu (G7_at a sc ss v5 v7 w b s j))

end Cert.KernelIdeal.Value
end
-- ==== Proof.Math.Net.lean ====
module

public import proofs.«01_k».proof.Proof.Math.Spec
public import Idealize.ShloMosaic.Lib.Pointwise

/-!
The whole network on extended reals: the activation entering every layer and the five result arrays, as functions of the six
argument arrays.
-/

@[expose] public section

noncomputable section

namespace Cert.Math

open Idealize.ShloMosaic

/-- An array of extended reals of the given sizes. -/
abbrev Arr (n : Nat) (d : Fin n → Nat) := (⟨n, d⟩ : Shape).Idx → EReal

/-- The six argument arrays. -/
structure Args where
  /-- The activation entering the network. -/
  x : Arr 3 ![24, 40, 1024]
  /-- The carried codes of every layer. -/
  sc : Arr 4 ![5, 24, 2, 1024]
  /-- The carried scales of every layer. -/
  ss : Arr 4 ![5, 24, 2, 8]
  /-- The weights of every layer. -/
  w : Arr 4 ![5, 3, 1024, 1024]
  /-- The channel scales of every layer. -/
  ws : Arr 2 ![5, 1024]
  /-- The channel shifts of every layer. -/
  bb : Arr 2 ![5, 1024]

namespace Args

variable (A : Args)

/-- Layer `l`'s carried codes. -/
def lsc (l : Fin 5) : Fin 24 → Fin 2 → Fin 1024 → EReal := fun b s c => A.sc (ix4 l b s c)
/-- Layer `l`'s carried scales. -/
def lss (l : Fin 5) : Fin 24 → Fin 2 → Fin 8 → EReal := fun b s j => A.ss (ix4 l b s j)
/-- Layer `l`'s weights. -/
def lw (l : Fin 5) : Fin 3 → Fin 1024 → Fin 1024 → EReal := fun k c j => A.w (ix4 l k c j)
/-- Layer `l`'s channel scales. -/
def lws (l : Fin 5) : Fin 1024 → EReal := fun j => A.ws (ix2 l j)
/-- Layer `l`'s channel shifts. -/
def lbb (l : Fin 5) : Fin 1024 → EReal := fun j => A.bb (ix2 l j)

/-- Layer `l` before its activation function, of an activation. -/
def lin (l : Fin 5) (a : Act) : Act := pre a (A.lsc l) (A.lss l) (A.lw l) (A.lws l) (A.lbb l)

/-- Layer `l` of an activation. -/
def layer (l : Fin 5) (a : Act) : Act := next a (A.lsc l) (A.lss l) (A.lw l) (A.lws l) (A.lbb l)

/-- The activation entering layer `n`. -/
def acts : ℕ → Act
  | 0 => fun b s c => A.x (ix3 b s c)
  | n + 1 => if h : n < 5 then A.layer ⟨n, h⟩ (acts n) else acts n

theorem acts_succ (n : ℕ) (h : n < 5) : A.acts (n + 1) = A.layer ⟨n, h⟩ (A.acts n) := by
  rw [acts, dif_pos h]

/-- The network's result. -/
def res6 : Arr 3 ![24, 40, 1024] := fun i => A.lin 4 (A.acts 4) (i 0) (i 1) (i 2)
/-- Every layer's codes. -/
def res7 : Arr 4 ![5, 24, 40, 1024] := fun i => code (A.acts (i 0).val) (i 1) (i 2) (i 3)
/-- Every layer's scales. -/
def res8 : Arr 4 ![5, 24, 40, 8] := fun i => scale (A.acts (i 0).val) (i 1) (i 2) (i 3)
/-- The codes every layer carries out. -/
def res9 : Arr 4 ![5, 24, 2, 1024] := fun i => ncode (A.acts (i 0).val) (i 1) (i 2) (i 3)
/-- The scales every layer carries out. -/
def res10 : Arr 4 ![5, 24, 2, 8] := fun i => nscale (A.acts (i 0).val) (i 1) (i 2) (i 3)

theorem res6_at (b : Fin 24) (s : Fin 40) (j : Fin 1024) : A.res6 (ix3 b s j) = A.lin 4 (A.acts 4) b s j := rfl

theorem res7_at (l : Fin 5) (b : Fin 24) (s : Fin 40) (j : Fin 1024) : A.res7 (ix4 l b s j) = code (A.acts l.val) b s j := rfl

theorem res8_at (l : Fin 5) (b : Fin 24) (s : Fin 40) (j : Fin 8) : A.res8 (ix4 l b s j) = scale (A.acts l.val) b s j := rfl

theorem res9_at (l : Fin 5) (b : Fin 24) (s : Fin 2) (j : Fin 1024) : A.res9 (ix4 l b s j) = ncode (A.acts l.val) b s j := rfl

theorem res10_at (l : Fin 5) (b : Fin 24) (s : Fin 2) (j : Fin 8) : A.res10 (ix4 l b s j) = nscale (A.acts l.val) b s j := rfl

end Args

end Cert.Math
end
-- ==== Proof.PI.Inputs.lean ====
module

public import proofs.«01_k».proof.Proof.PI.Run
public import proofs.«01_k».proof.Proof.PI.Scalar
public import proofs.«01_k».proof.Proof.Math.Net

/-!
The idealized kernel's blocks of its arguments, and the activations it carries, as the network's.
-/

@[expose] public section

set_option maxRecDepth 16384

noncomputable section

namespace Cert.KernelIdeal.Value

open Cert.KernelIdeal Cert.KernelIdeal.Gen
open Idealize.ShloMosaic Idealize.ShloMosaic.TcCoe
open Idealize.SL Idealize.SL.RA

variable (m : (ℓ : Loc nD τ sig) → Buf (Elt Ideal) ℓ)

/-- The argument arrays of core `c`. -/
def args (c : Dev nD) : Cert.Math.Args where
  x := m ((c : Thread nD τ).loc main_arg0)
  sc := m ((c : Thread nD τ).loc main_arg1)
  ss := m ((c : Thread nD τ).loc main_arg2)
  w := m ((c : Thread nD τ).loc main_arg3)
  ws := m ((c : Thread nD τ).loc main_arg4)
  bb := m ((c : Thread nD τ).loc main_arg5)

/-- A point as a layer. -/
def ly (t : Fin cfg0.N) : Fin 5 := ⟨t.val, Nat.lt_of_lt_of_eq t.isLt N_0⟩

theorem wi0 : ∀ t : Fin cfg0.N, win0_0.index t = ![0, 0, 0] := (by decide +kernel : ∀ t : Fin grid0.N, _)
theorem wi1 : ∀ t : Fin cfg0.N, win0_1.index t = ![t.val, 0, 0, 0] := (by decide +kernel : ∀ t : Fin grid0.N, win0_1.index t = ![t.val, 0, 0, 0])
theorem wi2 : ∀ t : Fin cfg0.N, win0_2.index t = ![t.val, 0, 0, 0] := (by decide +kernel : ∀ t : Fin grid0.N, win0_2.index t = ![t.val, 0, 0, 0])
theorem wi3 : ∀ t : Fin cfg0.N, win0_3.index t = ![t.val, 0, 0, 0] := (by decide +kernel : ∀ t : Fin grid0.N, win0_3.index t = ![t.val, 0, 0, 0])
theorem wi4 : ∀ t : Fin cfg0.N, win0_4.index t = ![0, 0] := (by decide +kernel : ∀ t : Fin grid0.N, win0_4.index t = ![0, 0])
theorem wi5 : ∀ t : Fin cfg0.N, win0_5.index t = ![0, 0] := (by decide +kernel : ∀ t : Fin grid0.N, win0_5.index t = ![0, 0])
theorem wi6 : ∀ t : Fin cfg0.N, win0_6.index t = ![0, 0, 0] := (by decide +kernel : ∀ t : Fin grid0.N, win0_6.index t = ![0, 0, 0])
theorem wi7 : ∀ t : Fin cfg0.N, win0_7.index t = ![t.val, 0, 0, 0] := (by decide +kernel : ∀ t : Fin grid0.N, win0_7.index t = ![t.val, 0, 0, 0])
theorem wi8 : ∀ t : Fin cfg0.N, win0_8.index t = ![t.val, 0, 0, 0] := (by decide +kernel : ∀ t : Fin grid0.N, win0_8.index t = ![t.val, 0, 0, 0])
theorem wi9 : ∀ t : Fin cfg0.N, win0_9.index t = ![t.val, 0, 0, 0] := (by decide +kernel : ∀ t : Fin grid0.N, win0_9.index t = ![t.val, 0, 0, 0])
theorem wi10 : ∀ t : Fin cfg0.N, win0_10.index t = ![t.val, 0, 0, 0] := (by decide +kernel : ∀ t : Fin grid0.N, win0_10.index t = ![t.val, 0, 0, 0])
/-- The grid's only coordinate is the point. -/
theorem coord (t : Fin cfg0.N) : grid0.coords t 0 = ly t :=
  Fin.ext ((by decide +kernel : ∀ t : Fin grid0.N, (grid0.coords t 0).val = t.val) t)

theorem in0 (c : Dev nD) (t : Fin cfg0.N) (b : Fin 24) (s : Fin 40) (k : Fin 1024) :
    (iblk m c 0 t : Vec Ideal S24x40x1024 .bf16) (ix3 b s k) = (args m c).x (ix3 b s k) := by
  unfold args
  blk_ext! [iblk, V, wi0 t]

theorem in1 (c : Dev nD) (t : Fin cfg0.N) : ksc (iblk m c 1 t) = (args m c).lsc (ly t) := by
  funext b s k
  unfold ksc Cert.Math.Args.lsc args ly
  blk_ext! [iblk, V, wi1 t]

theorem in2 (c : Dev nD) (t : Fin cfg0.N) : kss (iblk m c 2 t) = (args m c).lss (ly t) := by
  funext b s k
  unfold kss Cert.Math.Args.lss args ly
  blk_ext! [iblk, V, wi2 t]

theorem in3 (c : Dev nD) (t : Fin cfg0.N) : kw (iblk m c 3 t) = (args m c).lw (ly t) := by
  funext k i j
  unfold kw Cert.Math.Args.lw args ly
  blk_ext! [iblk, V, wi3 t]

theorem in4 (c : Dev nD) (t : Fin cfg0.N) : krow (row (grid0.coords t 0) (iblk m c 4 t)) = (args m c).lws (ly t) := by
  funext j
  rw [coord]
  change (iblk m c 4 t : Vec Ideal S5x1024 .f32) (ix2 (ly t) j) = (args m c).ws (ix2 (ly t) j)
  unfold args ly
  blk_ext! [iblk, V, wi4 t]

theorem in5 (c : Dev nD) (t : Fin cfg0.N) : krow (row (grid0.coords t 0) (iblk m c 5 t)) = (args m c).lbb (ly t) := by
  funext j
  rw [coord]
  change (iblk m c 5 t : Vec Ideal S5x1024 .f32) (ix2 (ly t) j) = (args m c).bb (ix2 (ly t) j)
  unfold args ly
  blk_ext! [iblk, V, wi5 t]

theorem pay1_at (x : Vec Ideal S24x40x1024 .bf16) (b : Fin 24) (s : Fin 40) (k : Fin 1024) :
    k0_pay1 x (ix3 b s k) = x (ix3 b s k) := by
  pointwise [k0_pay1]

/-- The activations the kernel carries are the network's. -/
theorem act_eq (c : Dev nD) : ∀ n : ℕ, kact (act m c n) = (args m c).acts n
  | 0 => by
    funext b s k
    exact (pay1_at _ b s k).trans (in0 m c _ b s k)
  | n + 1 => by
    by_cases h : n < 5
    · have hN : n < cfg0.N := Nat.lt_of_lt_of_eq h N_0.symm
      rw [Cert.Math.Args.acts_succ _ n h, act, dif_pos hN]
      funext b s k
      refine (G12_at _ _ _ _ _ _ b s k).trans ?_
      rw [act_eq c n, in1, in2, in3, in4, in5]
      rfl
    · have hN : ¬ n < cfg0.N := fun h' => h (Nat.lt_of_lt_of_eq h' N_0)
      rw [act, dif_neg hN, Cert.Math.Args.acts, dif_neg h, act_eq c n]

theorem final_at (c : Dev nD) (t : Fin cfg0.N) (b : Fin 24) (s : Fin 40) (k : Fin 1024) :
    final m c t (ix3 b s k) = (args m c).lin (ly t) ((args m c).acts t.val) b s k := by
  refine (G7_at _ _ _ _ _ _ b s k).trans ?_
  rw [act_eq, in1, in2, in3, in4, in5]
  rfl

end Cert.KernelIdeal.Value
end
-- ==== Proof.PI.Result.lean ====
module

public import proofs.«01_k».proof.Proof.PI.Inputs

/-!
The idealized kernel's five result arrays are the network's, of its argument arrays.
-/

@[expose] public section

set_option maxRecDepth 16384

noncomputable section

namespace Cert.KernelIdeal.Value

open Cert.KernelIdeal Cert.KernelIdeal.Gen
open Idealize.ShloMosaic Idealize.ShloMosaic.TcCoe
open Idealize.SL Idealize.SL.RA
open Idealize.ShloMosaic.Pipeline (Dat)

variable (m : (ℓ : Loc nD τ sig) → Buf (Elt Ideal) ℓ)

theorem blk7 (c : Dev nD) (t : Fin cfg0.N) (z : Fin 1) (b : Fin 24) (s : Fin 40) (j : Fin 1024) :
    G8 (act m c t.val) (ix4 z b s j) = (args m c).res7 (ix4 (ly t) b s j) := by
  rw [Cert.Math.Args.res7_at, G8_at, act_eq, ly]

/-- The array of window 7 from what every point leaves there. -/
theorem arr7_of (c : Dev nD) (dat : Dat τ (Elt Ideal) Unit ℕ (UR sig nD τ) ℕ cfg0 c) (X : Fin cfg0.N → Vec Ideal S1x24x40x1024 .fp8e4m3)
    (hX : ∀ t, dat.after 7 t = X t) (R : Vec Ideal S5x24x40x1024 .fp8e4m3)
    (h : ∀ (t : Fin cfg0.N) (z : Fin 1) (b : Fin 24) (s : Fin 40) (j : Fin 1024), X t (ix4 z b s j) = R (ix4 (ly t) b s j)) :
    dat.arrAt 7 cfg0.N = R := by
  refine dat.arrAt_eq_of_covers 7 _ (by decide +kernel) fun t hf y => ?_
  blk_simp
  rw [hX]
  change Shape.Idx S1x24x40x1024 at y
  obtain ⟨z, b, s, j, rfl⟩ : ∃ (z : Fin 1) (b : Fin 24) (s : Fin 40) (j : Fin 1024), y = ix4 z b s j := ⟨y 0, y 1, y 2, y 3, eq_ix4 y⟩
  have e : (win0_7.blk t).view.emb (ix4 z b s j : Shape.Idx S1x24x40x1024) = (ix4 (ly t) b s j : Shape.Idx S5x24x40x1024) := by
    unfold ly
    blk_ext [wi7 t]
  rw [e]
  exact h t z b s j

theorem arr7 (c : Dev nD) : (dats m 0 c).arrAt 7 cfg0.N = (args m c).res7 :=
  arr7_of c (dats m 0 c) (fun t => G8 (act m c t.val)) (after_7 m c) (args m c).res7 (blk7 m c)

theorem blk8 (c : Dev nD) (t : Fin cfg0.N) (z : Fin 1) (b : Fin 24) (s : Fin 40) (j : Fin 8) :
    G9 (act m c t.val) (ix4 z b s j) = (args m c).res8 (ix4 (ly t) b s j) :=
  (G9_at (act m c t.val) z b s j).trans ((congrArg (fun x => Cert.Math.scale x b s j) (act_eq m c t.val)).trans
    (Cert.Math.Args.res8_at (args m c) (ly t) b s j).symm)

/-- The array of window 8 from what every point leaves there. -/
theorem arr8_of (c : Dev nD) (dat : Dat τ (Elt Ideal) Unit ℕ (UR sig nD τ) ℕ cfg0 c) (X : Fin cfg0.N → Vec Ideal S1x24x40x8 .f32)
    (hX : ∀ t, dat.after 8 t = X t) (R : Vec Ideal S5x24x40x8 .f32)
    (h : ∀ (t : Fin cfg0.N) (z : Fin 1) (b : Fin 24) (s : Fin 40) (j : Fin 8), X t (ix4 z b s j) = R (ix4 (ly t) b s j)) :
    dat.arrAt 8 cfg0.N = R := by
  refine dat.arrAt_eq_of_covers 8 _ (by decide +kernel) fun t hf y => ?_
  blk_simp
  rw [hX]
  change Shape.Idx S1x24x40x8 at y
  obtain ⟨z, b, s, j, rfl⟩ : ∃ (z : Fin 1) (b : Fin 24) (s : Fin 40) (j : Fin 8), y = ix4 z b s j := ⟨y 0, y 1, y 2, y 3, eq_ix4 y⟩
  have e : (win0_8.blk t).view.emb (ix4 z b s j : Shape.Idx S1x24x40x8) = (ix4 (ly t) b s j : Shape.Idx S5x24x40x8) := by
    unfold ly
    blk_ext [wi8 t]
  rw [e]
  exact h t z b s j

theorem arr8 (c : Dev nD) : (dats m 0 c).arrAt 8 cfg0.N = (args m c).res8 :=
  arr8_of c (dats m 0 c) (fun t => G9 (act m c t.val)) (after_8 m c) (args m c).res8 (blk8 m c)

theorem blk9 (c : Dev nD) (t : Fin cfg0.N) (z : Fin 1) (b : Fin 24) (s : Fin 2) (j : Fin 1024) :
    G10 (act m c t.val) (ix4 z b s j) = (args m c).res9 (ix4 (ly t) b s j) := by
  rw [Cert.Math.Args.res9_at, G10_at, act_eq, ly]

/-- The array of window 9 from what every point leaves there. -/
theorem arr9_of (c : Dev nD) (dat : Dat τ (Elt Ideal) Unit ℕ (UR sig nD τ) ℕ cfg0 c) (X : Fin cfg0.N → Vec Ideal S1x24x2x1024 .fp8e4m3)
    (hX : ∀ t, dat.after 9 t = X t) (R : Vec Ideal S5x24x2x1024 .fp8e4m3)
    (h : ∀ (t : Fin cfg0.N) (z : Fin 1) (b : Fin 24) (s : Fin 2) (j : Fin 1024), X t (ix4 z b s j) = R (ix4 (ly t) b s j)) :
    dat.arrAt 9 cfg0.N = R := by
  refine dat.arrAt_eq_of_covers 9 _ (by decide +kernel) fun t hf y => ?_
  blk_simp
  rw [hX]
  change Shape.Idx S1x24x2x1024 at y
  obtain ⟨z, b, s, j, rfl⟩ : ∃ (z : Fin 1) (b : Fin 24) (s : Fin 2) (j : Fin 1024), y = ix4 z b s j := ⟨y 0, y 1, y 2, y 3, eq_ix4 y⟩
  have e : (win0_9.blk t).view.emb (ix4 z b s j : Shape.Idx S1x24x2x1024) = (ix4 (ly t) b s j : Shape.Idx S5x24x2x1024) := by
    unfold ly
    blk_ext [wi9 t]
  rw [e]
  exact h t z b s j

theorem arr9 (c : Dev nD) : (dats m 0 c).arrAt 9 cfg0.N = (args m c).res9 :=
  arr9_of c (dats m 0 c) (fun t => G10 (act m c t.val)) (after_9 m c) (args m c).res9 (blk9 m c)

theorem blk10 (c : Dev nD) (t : Fin cfg0.N) (z : Fin 1) (b : Fin 24) (s : Fin 2) (j : Fin 8) :
    G11 (act m c t.val) (ix4 z b s j) = (args m c).res10 (ix4 (ly t) b s j) :=
  (G11_at (act m c t.val) z b s j).trans ((congrArg (fun x => Cert.Math.nscale x b s j) (act_eq m c t.val)).trans
    (Cert.Math.Args.res10_at (args m c) (ly t) b s j).symm)

/-- The array of window 10 from what every point leaves there. -/
theorem arr10_of (c : Dev nD) (dat : Dat τ (Elt Ideal) Unit ℕ (UR sig nD τ) ℕ cfg0 c) (X : Fin cfg0.N → Vec Ideal S1x24x2x8 .f32)
    (hX : ∀ t, dat.after 10 t = X t) (R : Vec Ideal S5x24x2x8 .f32)
    (h : ∀ (t : Fin cfg0.N) (z : Fin 1) (b : Fin 24) (s : Fin 2) (j : Fin 8), X t (ix4 z b s j) = R (ix4 (ly t) b s j)) :
    dat.arrAt 10 cfg0.N = R := by
  refine dat.arrAt_eq_of_covers 10 _ (by decide +kernel) fun t hf y => ?_
  blk_simp
  rw [hX]
  change Shape.Idx S1x24x2x8 at y
  obtain ⟨z, b, s, j, rfl⟩ : ∃ (z : Fin 1) (b : Fin 24) (s : Fin 2) (j : Fin 8), y = ix4 z b s j := ⟨y 0, y 1, y 2, y 3, eq_ix4 y⟩
  have e : (win0_10.blk t).view.emb (ix4 z b s j : Shape.Idx S1x24x2x8) = (ix4 (ly t) b s j : Shape.Idx S5x24x2x8) := by
    unfold ly
    blk_ext [wi10 t]
  rw [e]
  exact h t z b s j

theorem arr10 (c : Dev nD) : (dats m 0 c).arrAt 10 cfg0.N = (args m c).res10 :=
  arr10_of c (dats m 0 c) (fun t => G11 (act m c t.val)) (after_10 m c) (args m c).res10 (blk10 m c)

theorem blk6 (c : Dev nD) (t : Fin cfg0.N) (h : t.val = 4) (b : Fin 24) (s : Fin 40) (j : Fin 1024) :
    final m c t (ix3 b s j) = (args m c).res6 (ix3 b s j) := by
  have hl : ly t = 4 := Fin.ext h
  rw [Cert.Math.Args.res6_at, final_at, hl, h]

theorem arr6 (c : Dev nD) : (dats m 0 c).arrAt 6 cfg0.N = (args m c).res6 := by
  refine (dats m 0 c).arrAt_eq_of_covers 6 _ (by decide +kernel) fun t hf y => ?_
  have h4 : t.val = 4 := by
    have h := (flush0_6 t).1 hf
    have h5 : t.val < 5 := Nat.lt_of_lt_of_eq t.isLt N_0
    omega
  blk_simp
  rw [after_6]
  change Shape.Idx S24x40x1024 at y
  obtain ⟨b, s, j, rfl⟩ : ∃ (b : Fin 24) (s : Fin 40) (j : Fin 1024), y = ix3 b s j := ⟨y 0, y 1, y 2, eq_ix3 y⟩
  have e : (win0_6.blk t).view.emb (ix3 b s j : Shape.Idx S24x40x1024) = (ix3 b s j : Shape.Idx S24x40x1024) := by blk_ext [wi6 t]
  rw [e]
  exact blk6 m c t h4 b s j

end Cert.KernelIdeal.Value
end
-- ==== Proof.RI.Scalar.lean ====
module

public import proofs.«01_k».proof.Proof.Gen.ReferenceIdeal.Skeleton
public import proofs.«01_k».proof.Proof.Math.Spec
public import Idealize.ShloMosaic.Lib.Pointwise

/-!
The reference's quantiser read at an index, as the functions of the specification.
-/

@[expose] public section

set_option maxRecDepth 16384

noncomputable section

namespace Cert.ReferenceIdeal.Value

open Cert.ReferenceIdeal Cert.ReferenceIdeal.Gen
open Idealize.ShloMosaic
open Cert.Math (Act mx bk scale code codes scales deq pre next ncode nscale tR eR SC IV)

/-- A vector read as a function of its three coordinates. -/
def act (a : FVec Ideal S24x40x1024 .f32) : Act := fun b s c => a (ix3 b s c)

theorem at16 (a : FVec Ideal S24x40x1024 .f32) (b : Fin 24) (s : Fin 40) (j : Fin 8) :
    k0_pay16 (F := Ideal) a (ix3 b s j) = tR (mx (act a) b s j) := by
  pointwise [k0_pay16, k0_pay15]
  rfl

theorem at17 (a : FVec Ideal S24x40x1024 .f32) (b : Fin 24) (s : Fin 40) (j : Fin 8) (i : Fin 246) :
    k0_pay17 (F := Ideal) a (ix4 b s j i) =
      if (FloatOps.exp2 (F := Ideal) (φ := .f32) (FloatOps.sitofp .f32 (BitVec.ofNat 32 i.val) -
        Ideal.ofBits .f32 1123811328#32) : EReal) ≤ tR (mx (act a) b s j) then 1 else 0 := by
  have h := at16 a b s j
  pointwise [k0_pay17]
  rw [h]

theorem at18 (x : FVec Ideal S24x40x8 .f32) (y : FVec Ideal S24x40x8x246 .f32) (b : Fin 24) (s : Fin 40) (j : Fin 8) :
    k0_pay18 (F := Ideal) x y (ix3 b s j) =
      if x (ix3 b s j) = 0 then 0 else (∑ i : Fin 246, y (ix4 b s j i)) - Ideal.ofBits .f32 1123811328#32 := by
  pointwise [k0_pay18]

/-- The exponent the reference finds is the specification's. -/
theorem atE (a : FVec Ideal S24x40x1024 .f32) (b : Fin 24) (s : Fin 40) (j : Fin 8) :
    k0_pay18 (F := Ideal) (k0_pay16 a) (k0_pay17 a) (ix3 b s j) = eR (mx (act a) b s j) := by
  rw [at18, at16]
  unfold eR
  simp only [at17]

theorem at19 (x : FVec Ideal S24x40x8 .f32) (y : FVec Ideal S24x40x8x246 .f32) (b : Fin 24) (s : Fin 40) (j : Fin 8) :
    k0_pay19 (F := Ideal) x y (ix3 b s j) = FloatOps.exp2 (F := Ideal) (φ := .f32) (k0_pay18 x y (ix3 b s j)) := by
  pointwise [k0_pay19]

theorem at15 (a : FVec Ideal S24x40x1024 .f32) (b : Fin 24) (s : Fin 40) (c : Fin 1024) :
    k0_pay15 (F := Ideal) a (ix4 b s (bk c) ⟨c.val % 128, Nat.mod_lt _ (by norm_num)⟩) = act a b s c := by
  unfold bk
  pointwise [k0_pay15]
  unfold act
  congr 2

theorem at20 (v : FVec Ideal S24x40x8x128 .f32) (x : FVec Ideal S24x40x8 .f32) (y : FVec Ideal S24x40x8x246 .f32) (b : Fin 24)
    (s : Fin 40) (c : Fin 1024) :
    k0_pay20 (F := Ideal) v x y (ix3 b s c) = min (Ideal.ofBits .f32 1138753536#32) (max (Ideal.ofBits .f32 3286237184#32)
      (v (ix4 b s (bk c) ⟨c.val % 128, Nat.mod_lt _ (by norm_num)⟩) *
        FloatOps.exp2 (F := Ideal) (φ := .f32) (0 - k0_pay18 x y (ix3 b s (bk c))))) := by
  unfold bk
  pointwise [k0_pay20]

/-- The reference's scales are the specification's. -/
theorem scale_at (a : FVec Ideal S24x40x1024 .f32) (b : Fin 24) (s : Fin 40) (j : Fin 8) :
    k0_pay19 (F := Ideal) (k0_pay16 a) (k0_pay17 a) (ix3 b s j) = scale (act a) b s j := by
  rw [at19, atE]
  rfl

/-- The reference's codes are the specification's. -/
theorem code_at (a : FVec Ideal S24x40x1024 .f32) (b : Fin 24) (s : Fin 40) (c : Fin 1024) :
    k0_pay20 (F := Ideal) (k0_pay15 a) (k0_pay16 a) (k0_pay17 a) (ix3 b s c) = code (act a) b s c := by
  rw [at20, atE, at15]
  rfl

end Cert.ReferenceIdeal.Value
end
-- ==== Proof.RI.Layers.lean ====
module

public import proofs.«01_k».proof.Proof.Gen.ReferenceIdeal.Frame

/-!
The reference's five layers are one function: the values its body binds layer by layer, stated as that function of the layer
before and the layer's slices of the arguments.
-/

@[expose] public section

set_option maxRecDepth 16384

noncomputable section

namespace Cert.ReferenceIdeal.Value

open Cert.ReferenceIdeal Cert.ReferenceIdeal.Gen
open Idealize.ShloMosaic

variable {F : FTy → Type} [FloatOps F]

/-- The scales of an activation. -/
def Sc (a : FVec F S24x40x1024 .f32) : FVec F S24x40x8 .f32 := k0_pay19 (k0_pay16 a) (k0_pay17 a)

/-- The codes of an activation. -/
def Cd (a : FVec F S24x40x1024 .f32) : FVec F S24x40x1024 .fp8e4m3 := k0_pay20 (k0_pay15 a) (k0_pay16 a) (k0_pay17 a)

/-- A layer with its activation function. -/
def L (a : FVec F S24x40x1024 .f32) (sc : Vec F S1x24x2x1024 .fp8e4m3) (ss : Vec F S1x24x2x8 .f32)
    (w : Vec F S1x3x1024x1024 .fp8e4m3) (ws b : Vec F S1x1024 .f32) : FVec F S24x40x1024 .f32 :=
  k0_pay10 (Sc a) (Cd a) sc ss w ws b

/-- A layer without its activation function: what the last layer is. -/
def Lin (a : FVec F S24x40x1024 .f32) (sc : Vec F S1x24x2x1024 .fp8e4m3) (ss : Vec F S1x24x2x8 .f32)
    (w : Vec F S1x3x1024x1024 .fp8e4m3) (ws b : Vec F S1x1024 .f32) : FVec F S24x40x1024 .f32 :=
  k0_pay62 (Sc a) (k0_pay8 (Cd a) sc) (k0_pay60 ss) w ws b

/-- The codes as the layer's block of the code result. -/
def Co (a : FVec F S24x40x1024 .f32) : FVec F S1x24x40x1024 .fp8e4m3 := k0_pay11 (Cd a)

/-- The scales as the layer's block of the scale result. -/
def So (a : FVec F S24x40x1024 .f32) : FVec F S1x24x40x8 .f32 := k0_pay12 (Sc a)

/-- The codes carried out. -/
def Cn (a : FVec F S24x40x1024 .f32) (sc : Vec F S1x24x2x1024 .fp8e4m3) : FVec F S1x24x2x1024 .fp8e4m3 :=
  k0_pay13 (k0_pay8 (Cd a) sc)

/-- The scales carried out. -/
def Sn (a : FVec F S24x40x1024 .f32) (ss : Vec F S1x24x2x8 .f32) : FVec F S1x24x2x8 .f32 := k0_pay14 (k0_pay9 (Sc a) ss)

/-- The activation entering layer 0. -/
def A0 (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32) : FVec F S24x40x1024 .f32 := extf .f32 (View.ld x0 r0_0) bitsLt_bf16_f32

/-- The activation entering layer 1. -/
def A1 (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32) : FVec F S24x40x1024 .f32 :=
  L (A0 x0 x1 x2 x3 x4 x5) (View.ld x1 r0_1) (View.ld x2 r0_2) (View.ld x3 r0_3) (View.ld x4 r0_4) (View.ld x5 r0_4)

/-- The activation entering layer 2. -/
def A2 (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32) : FVec F S24x40x1024 .f32 :=
  L (A1 x0 x1 x2 x3 x4 x5) (View.ld x1 r0_7) (View.ld x2 r0_8) (View.ld x3 r0_9) (View.ld x4 r0_10) (View.ld x5 r0_10)

/-- The activation entering layer 3. -/
def A3 (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32) : FVec F S24x40x1024 .f32 :=
  L (A2 x0 x1 x2 x3 x4 x5) (View.ld x1 r0_13) (View.ld x2 r0_14) (View.ld x3 r0_15) (View.ld x4 r0_16) (View.ld x5 r0_16)

/-- The activation entering layer 4. -/
def A4 (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32) : FVec F S24x40x1024 .f32 :=
  L (A3 x0 x1 x2 x3 x4 x5) (View.ld x1 r0_19) (View.ld x2 r0_20) (View.ld x3 r0_21) (View.ld x4 r0_22) (View.ld x5 r0_22)

/-! ### Each layer's values, whatever the activation -/

variable (a : FVec F S24x40x1024 .f32) (sc : Vec F S1x24x2x1024 .fp8e4m3) (ss : Vec F S1x24x2x8 .f32)
  (w : Vec F S1x3x1024x1024 .fp8e4m3) (ws b : Vec F S1x1024 .f32)

theorem e6 (x : Vec F S24x40x1024 .bf16) : k0_pay6 x = Sc (extf .f32 x bitsLt_bf16_f32) := by
  unfold Sc k0_pay6 k0_pay5 k0_pay4 k0_pay19 k0_pay18 k0_pay17 k0_pay16 k0_pay15; rfl

theorem e7 (x : Vec F S24x40x1024 .bf16) : k0_pay7 x = Cd (extf .f32 x bitsLt_bf16_f32) := by
  unfold Cd k0_pay7 k0_pay5 k0_pay4 k0_pay20 k0_pay18 k0_pay17 k0_pay16 k0_pay15; rfl

theorem e29 : k0_pay29 (k0_pay23 (k0_pay15 a) (k0_pay16 a) (k0_pay17 a) sc ss) (k0_pay24 w) ws b = k0_pay15 (L a sc ss w ws b) := by
  unfold L k0_pay29 k0_pay23 k0_pay24 k0_pay15 k0_pay10 k0_pay21 k0_pay22 k0_pay8 k0_pay9 Sc Cd; rfl

theorem e31 : k0_pay31 (k0_pay15 a) = Sc a := by
  unfold Sc k0_pay31 k0_pay30 k0_pay19 k0_pay18 k0_pay17 k0_pay16; rfl

theorem e32 : k0_pay32 (k0_pay15 a) = Cd a := by
  unfold Cd k0_pay32 k0_pay30 k0_pay20 k0_pay18 k0_pay17 k0_pay16; rfl

theorem e33 : k0_pay33 (k0_pay15 a) sc = k0_pay8 (Cd a) sc := by
  unfold k0_pay33 k0_pay8; rw [e32]

theorem e35 : k0_pay35 (Sc a) (k0_pay8 (Cd a) sc) ss w ws b = L a sc ss w ws b := by
  unfold L k0_pay35 k0_pay34 k0_pay10 k0_pay9; rfl

theorem e45 : k0_pay45 (k0_pay41 a) (k0_pay42 a) (k0_pay43 (F := F)) = Sc a := by
  unfold Sc k0_pay45 k0_pay44 k0_pay43 k0_pay42 k0_pay41 k0_pay40 k0_pay19 k0_pay18 k0_pay17 k0_pay16 k0_pay15; rfl

theorem e46 : k0_pay46 (k0_pay40 a) (k0_pay41 a) (k0_pay42 a) (k0_pay43 (F := F)) = Cd a := by
  unfold Cd k0_pay46 k0_pay44 k0_pay43 k0_pay42 k0_pay41 k0_pay40 k0_pay20 k0_pay18 k0_pay17 k0_pay16 k0_pay15; rfl

theorem e47 : k0_pay47 (k0_pay40 a) (k0_pay41 a) (k0_pay42 a) (k0_pay43 (F := F)) sc = k0_pay8 (Cd a) sc := by
  unfold k0_pay47 k0_pay8; rw [e46]

theorem e48 : k0_pay48 (k0_pay41 a) (k0_pay42 a) (k0_pay43 (F := F)) ss = k0_pay9 (Sc a) ss := by
  unfold k0_pay48 k0_pay9; rw [e45]

theorem e54 : k0_pay54 (k0_pay49 (k0_pay40 a) (k0_pay41 a) (k0_pay42 a) (k0_pay43 (F := F)) sc ss w) ws b =
    k0_pay15 (L a sc ss w ws b) := by
  unfold L k0_pay54 k0_pay49 k0_pay10
  rw [e47, e48]; rfl

theorem e55 (v : FVec F S24x40x1024 .f32) : k0_pay57 (k0_pay55 v ws b) = k0_pay31 (k0_pay54 v ws b) := by
  unfold k0_pay57 k0_pay56 k0_pay55 k0_pay31 k0_pay30; rfl

theorem e58 (v : FVec F S24x40x1024 .f32) : k0_pay58 (k0_pay54 v ws b) (k0_pay55 v ws b) = k0_pay32 (k0_pay54 v ws b) := by
  unfold k0_pay58 k0_pay56 k0_pay55 k0_pay32 k0_pay30; rfl

theorem e59 (v : FVec F S24x40x1024 .f32) :
    k0_pay59 (k0_pay54 v ws b) (k0_pay55 v ws b) sc = k0_pay33 (k0_pay54 v ws b) sc := by
  unfold k0_pay59 k0_pay33; rw [e58]

/-! ### The values the body binds -/

variable (x0 : Vec F S24x40x1024 .bf16) (x1 : Vec F S5x24x2x1024 .fp8e4m3) (x2 : Vec F S5x24x2x8 .f32) (x3 : Vec F S5x3x1024x1024 .fp8e4m3)
    (x4 : Vec F S5x1024 .f32) (x5 : Vec F S5x1024 .f32)

theorem v66 : k0_pay66 x0 x1 x2 x3 x4 x5 = Sc (A0 x0 x1 x2 x3 x4 x5) := e6 _
theorem v67 : k0_pay67 x0 x1 x2 x3 x4 x5 = Cd (A0 x0 x1 x2 x3 x4 x5) := e7 _
theorem v68 : k0_pay68 x0 x1 x2 x3 x4 x5 = A1 x0 x1 x2 x3 x4 x5 := by
  unfold k0_pay68 A1 L; rw [v66, v67]
theorem v72 : k0_pay72 x0 x1 x2 x3 x4 x5 = k0_pay15 (A2 x0 x1 x2 x3 x4 x5) := by
  unfold k0_pay72 k0_pay69 k0_pay70 k0_pay71; rw [v68, e29]; rfl
theorem v73 : k0_pay73 x0 x1 x2 x3 x4 x5 = Sc (A2 x0 x1 x2 x3 x4 x5) := by
  unfold k0_pay73; rw [v72, e31]
theorem v74 : k0_pay74 x0 x1 x2 x3 x4 x5 = k0_pay8 (Cd (A2 x0 x1 x2 x3 x4 x5)) (View.ld x1 r0_13) := by
  unfold k0_pay74; rw [v72, e33]
theorem v75 : k0_pay75 x0 x1 x2 x3 x4 x5 = A3 x0 x1 x2 x3 x4 x5 := by
  unfold k0_pay75; rw [v73, v74, e35]; rfl
theorem v81 : k0_pay81 x0 x1 x2 x3 x4 x5 = k0_pay15 (A4 x0 x1 x2 x3 x4 x5) := by
  unfold k0_pay81 k0_pay80 k0_pay76 k0_pay77 k0_pay78 k0_pay79; rw [v75, e54]; rfl
theorem v83 : k0_pay83 x0 x1 x2 x3 x4 x5 = Sc (A4 x0 x1 x2 x3 x4 x5) := by
  unfold k0_pay83 k0_pay82; rw [e55]
  change k0_pay31 (k0_pay81 x0 x1 x2 x3 x4 x5) = _
  rw [v81, e31]
theorem v58 : k0_pay58 (k0_pay81 x0 x1 x2 x3 x4 x5) (k0_pay82 x0 x1 x2 x3 x4 x5) = Cd (A4 x0 x1 x2 x3 x4 x5) := by
  unfold k0_pay81 k0_pay82; rw [e58]
  change k0_pay32 (k0_pay81 x0 x1 x2 x3 x4 x5) = _
  rw [v81, e32]
theorem v84 : k0_pay84 x0 x1 x2 x3 x4 x5 = k0_pay8 (Cd (A4 x0 x1 x2 x3 x4 x5)) (View.ld x1 r0_25) := by
  unfold k0_pay84
  unfold k0_pay59 k0_pay8; rw [v58]

/-- The final result's block. -/
theorem out6 : out0_6 x0 x1 x2 x3 x4 x5 = View.canon [⟨r0_0, k0_pay3 (Lin (A4 x0 x1 x2 x3 x4 x5) (View.ld x1 r0_25) (View.ld x2 r0_26) (View.ld x3 r0_27)
    (View.ld x4 r0_28) (View.ld x5 r0_28))⟩] := by
  unfold out0_6 k0_pay85 Lin; rw [v83, v84]

/-- The codes' block, layer by layer. -/
theorem out7 : out0_7 x0 x1 x2 x3 x4 x5 = View.canon [⟨r0_29, Co (A4 x0 x1 x2 x3 x4 x5)⟩, ⟨r0_23, Co (A3 x0 x1 x2 x3 x4 x5)⟩, ⟨r0_17, Co (A2 x0 x1 x2 x3 x4 x5)⟩,
    ⟨r0_11, Co (A1 x0 x1 x2 x3 x4 x5)⟩, ⟨r0_5, Co (A0 x0 x1 x2 x3 x4 x5)⟩] := by
  unfold out0_7 k0_pay76 k0_pay77 k0_pay78 k0_pay79 k0_pay69 k0_pay70 k0_pay71
  rw [v58, v75, v72, v68, v67, e46, e32]; rfl

/-- The scales' block, layer by layer. -/
theorem out8 : out0_8 x0 x1 x2 x3 x4 x5 = View.canon [⟨r0_30, So (A4 x0 x1 x2 x3 x4 x5)⟩, ⟨r0_24, So (A3 x0 x1 x2 x3 x4 x5)⟩, ⟨r0_18, So (A2 x0 x1 x2 x3 x4 x5)⟩,
    ⟨r0_12, So (A1 x0 x1 x2 x3 x4 x5)⟩, ⟨r0_6, So (A0 x0 x1 x2 x3 x4 x5)⟩] := by
  unfold out0_8 k0_pay77 k0_pay78 k0_pay79 k0_pay70 k0_pay71
  rw [v83, v75, v73, v68, v66, e45]; rfl

/-- The carried codes' block, layer by layer. -/
theorem out9 : out0_9 x0 x1 x2 x3 x4 x5 = View.canon [⟨r0_25, Cn (A4 x0 x1 x2 x3 x4 x5) (View.ld x1 r0_25)⟩, ⟨r0_19, Cn (A3 x0 x1 x2 x3 x4 x5) (View.ld x1 r0_19)⟩,
    ⟨r0_13, Cn (A2 x0 x1 x2 x3 x4 x5) (View.ld x1 r0_13)⟩, ⟨r0_7, Cn (A1 x0 x1 x2 x3 x4 x5) (View.ld x1 r0_7)⟩, ⟨r0_1, Cn (A0 x0 x1 x2 x3 x4 x5) (View.ld x1 r0_1)⟩] := by
  unfold out0_9 k0_pay76 k0_pay77 k0_pay78 k0_pay79 k0_pay69 k0_pay70 k0_pay71
  rw [v84, v75, v74, v68, v67, e47]; rfl

/-- The carried scales' block, layer by layer. -/
theorem out10 : out0_10 x0 x1 x2 x3 x4 x5 = View.canon [⟨r0_26, Sn (A4 x0 x1 x2 x3 x4 x5) (View.ld x2 r0_26)⟩, ⟨r0_20, Sn (A3 x0 x1 x2 x3 x4 x5) (View.ld x2 r0_20)⟩,
    ⟨r0_14, Sn (A2 x0 x1 x2 x3 x4 x5) (View.ld x2 r0_14)⟩, ⟨r0_8, Sn (A1 x0 x1 x2 x3 x4 x5) (View.ld x2 r0_8)⟩, ⟨r0_2, Sn (A0 x0 x1 x2 x3 x4 x5) (View.ld x2 r0_2)⟩] := by
  unfold out0_10 k0_pay85 k0_pay77 k0_pay78 k0_pay79 k0_pay70 k0_pay71
  rw [v83, v75, v73, v68, v66, e48]; rfl

end Cert.ReferenceIdeal.Value
end
-- ==== Proof.RI.Conv.lean ====
module

public import proofs.«01_k».proof.Proof.Gen.ReferenceIdeal.Skeleton
public import proofs.«01_k».proof.Proof.Math.Spec
public import Idealize.ShloMosaic.Lib.Pointwise

/-!
A layer of the reference read at an index, as the layer of the specification.
-/

@[expose] public section

set_option maxRecDepth 16384

noncomputable section

namespace Cert.ReferenceIdeal.Value

open Cert.ReferenceIdeal Cert.ReferenceIdeal.Gen
open Idealize.ShloMosaic
open Cert.Math (Act mx bk scale code codes scales deq pre next ncode nscale tR eR SC IV elu)

/-- The dequantised rows, from the codes and the scales with the carried rows before them. -/
def Dq (q : FVec Ideal S24x42x1024 .fp8e4m3) (s : FVec Ideal S24x42x8 .f32) : FVec Ideal S24x42x1024 .bf16 :=
  shapeCast S24x42x1024 (mulf (shapeCast S24x42x8x128 (extf .bf16 q bitsLt_fp8e4m3_bf16) shapeCasts_S24x42x1024_S24x42x8x128)
    (broadcastTo S24x42x8x128 (shapeCast S24x42x8x1 (truncf .bf16 s bitsLt_bf16_f32) shapeCasts_S24x42x8_S24x42x8x1)
      broadcasts_S24x42x8x1_S24x42x8x128)) shapeCasts_S24x42x8x128_S24x42x1024

/-- The three shifted copies of the rows. -/
def Pt (d : FVec Ideal S24x42x1024 .bf16) : FVec Ideal S24x40x3x1024 .bf16 :=
  concatenate S24x40x3x1024 2
    [⟨S24x40x1x1024, shapeCast S24x40x1x1024 (extractStridedSlice S24x40x1024 ![0, 0, 0] d slices_S24x42x1024_o0_0_0_S24x40x1024)
      shapeCasts_S24x40x1024_S24x40x1x1024⟩,
    ⟨S24x40x1x1024, shapeCast S24x40x1x1024 (extractStridedSlice S24x40x1024 ![0, 1, 0] d slices_S24x42x1024_o0_1_0_S24x40x1024)
      shapeCasts_S24x40x1024_S24x40x1x1024⟩,
    ⟨S24x40x1x1024, shapeCast S24x40x1x1024 (extractStridedSlice S24x40x1024 ![0, 2, 0] d slices_S24x42x1024_o0_2_0_S24x40x1024)
      shapeCasts_S24x40x1024_S24x40x1x1024⟩]
    concatenates_S24x40x1x1024_S24x40x1x1024_S24x40x1x1024_S24x40x3x1024_d2

/-- The products with the weights, scaled and shifted by channel. -/
def Mm (p : FVec Ideal S24x40x3x1024 .bf16) (w : Vec Ideal S1x3x1024x1024 .fp8e4m3) (ws b : Vec Ideal S1x1024 .f32) :
    FVec Ideal S24x40x1024 .f32 :=
  addf (mulf (matmul dot_S24x40x3x1024_S3x1024x1024_S24x40x1024_32_10_01_2_n_n none p
    (extf .bf16 (shapeCast S3x1024x1024 w shapeCasts_S1x3x1024x1024_S3x1024x1024 : FVec Ideal S3x1024x1024 .fp8e4m3) bitsLt_fp8e4m3_bf16)
    (constant S24x40x1024 .f32 0x00000000#32))
    (broadcastTo S24x40x1024 (shapeCast S1x1x1024 (shapeCast S1024 ws shapeCasts_S1x1024_S1024 : FVec Ideal S1024 .f32)
      shapeCasts_S1024_S1x1x1024) broadcasts_S1x1x1024_S24x40x1024))
    (broadcastTo S24x40x1024 (shapeCast S1x1x1024 (shapeCast S1024 b shapeCasts_S1x1024_S1024 : FVec Ideal S1024 .f32)
      shapeCasts_S1024_S1x1x1024) broadcasts_S1x1x1024_S24x40x1024)

/-- The activation function. -/
def El (v : FVec Ideal S24x40x1024 .f32) : FVec Ideal S24x40x1024 .f32 :=
  select (cmpf .ogt v (broadcast S24x40x1024 (Scalar.ofBits .f32 0x00000000#32))) v
    (subf (exp v) (broadcast S24x40x1024 (Scalar.ofBits .f32 0x3F800000#32)))

theorem at8 (q : FVec Ideal S24x40x1024 .fp8e4m3) (sc : Vec Ideal S1x24x2x1024 .fp8e4m3) (b : Fin 24) (r : Fin 42) (c : Fin 1024) :
    k0_pay8 (F := Ideal) q sc (ix3 b r c) = if h : r.val < 2 then sc (ix4 0 b ⟨r.val, h⟩ c) else q (ix3 b ⟨r.val - 2, by omega⟩ c) := by
  pointwise [k0_pay8]

theorem at9 (s : FVec Ideal S24x40x8 .f32) (ss : Vec Ideal S1x24x2x8 .f32) (b : Fin 24) (r : Fin 42) (j : Fin 8) :
    k0_pay9 (F := Ideal) s ss (ix3 b r j) = if h : r.val < 2 then ss (ix4 0 b ⟨r.val, h⟩ j) else s (ix3 b ⟨r.val - 2, by omega⟩ j) := by
  pointwise [k0_pay9]

theorem atDq (q : FVec Ideal S24x42x1024 .fp8e4m3) (s : FVec Ideal S24x42x8 .f32) (b : Fin 24) (r : Fin 42) (c : Fin 1024) :
    Dq q s (ix3 b r c) = q (ix3 b r c) * s (ix3 b r (bk c)) := by
  unfold bk
  pointwise [Dq]

theorem atPt (d : FVec Ideal S24x42x1024 .bf16) (b : Fin 24) (s : Fin 40) (k : Fin 3) (c : Fin 1024) :
    Pt d (ix4 b s k c) = d (ix3 b ⟨k.val + s.val, by omega⟩ c) := by
  pointwise [Pt]
  obtain ⟨k, hk⟩ := k
  obtain _ | _ | _ | k := k
  · rw [dif_pos (by norm_num)]
    exact congrArg (fun r => d (ix3 b r c)) (Fin.ext (by simp))
  · rw [dif_neg (by norm_num), dif_pos (by norm_num)]
  · rw [dif_neg (by norm_num), dif_neg (by norm_num)]
  · omega

theorem atMm (p : FVec Ideal S24x40x3x1024 .bf16) (w : Vec Ideal S1x3x1024x1024 .fp8e4m3) (ws b : Vec Ideal S1x1024 .f32)
    (i : Fin 24) (s : Fin 40) (j : Fin 1024) :
    Mm p w ws b (ix3 i s j) = (∑ c : Fin 1024, ∑ k : Fin 3, p (ix4 i s k c) * w (ix4 0 k c j)) * ws (ix2 0 j) + b (ix2 0 j) := by
  pointwise [Mm]

theorem atEl (v : FVec Ideal S24x40x1024 .f32) (i : Fin 24) (s : Fin 40) (j : Fin 1024) :
    El v (ix3 i s j) = elu (v (ix3 i s j)) := by
  unfold elu
  pointwise [El]

end Cert.ReferenceIdeal.Value
end
-- ==== Proof.RI.Layer.lean ====
module

public import proofs.«01_k».proof.Proof.RI.Scalar
public import proofs.«01_k».proof.Proof.RI.Layers
public import proofs.«01_k».proof.Proof.RI.Conv

/-!
The reference's layer, its codes and its scales read at an index, as those of the specification.
-/

@[expose] public section

set_option maxRecDepth 16384

noncomputable section

namespace Cert.ReferenceIdeal.Value

open Cert.ReferenceIdeal Cert.ReferenceIdeal.Gen
open Idealize.ShloMosaic
open Cert.Math (Act mx bk scale code codes scales deq pre next ncode nscale tR eR SC IV elu)

theorem L_split (a : FVec Ideal S24x40x1024 .f32) (sc : Vec Ideal S1x24x2x1024 .fp8e4m3) (ss : Vec Ideal S1x24x2x8 .f32)
    (w : Vec Ideal S1x3x1024x1024 .fp8e4m3) (ws b : Vec Ideal S1x1024 .f32) :
    L a sc ss w ws b = El (Mm (Pt (Dq (k0_pay8 (Cd a) sc) (k0_pay9 (Sc a) ss))) w ws b) := by
  unfold L k0_pay10
  rfl

theorem Lin_split (a : FVec Ideal S24x40x1024 .f32) (sc : Vec Ideal S1x24x2x1024 .fp8e4m3) (ss : Vec Ideal S1x24x2x8 .f32)
    (w : Vec Ideal S1x3x1024x1024 .fp8e4m3) (ws b : Vec Ideal S1x1024 .f32) :
    Lin a sc ss w ws b = Mm (Pt (Dq (k0_pay8 (Cd a) sc) (k0_pay9 (Sc a) ss))) w ws b := by
  unfold Lin k0_pay62
  rfl

/-- A layer's carried codes as a function of their coordinates. -/
def rsc (sc : Vec Ideal S1x24x2x1024 .fp8e4m3) : Fin 24 → Fin 2 → Fin 1024 → EReal := fun b s c => sc (ix4 0 b s c)

/-- A layer's carried scales as a function of their coordinates. -/
def rss (ss : Vec Ideal S1x24x2x8 .f32) : Fin 24 → Fin 2 → Fin 8 → EReal := fun b s j => ss (ix4 0 b s j)

/-- A layer's weights as a function of their coordinates. -/
def rw' (w : Vec Ideal S1x3x1024x1024 .fp8e4m3) : Fin 3 → Fin 1024 → Fin 1024 → EReal := fun k c j => w (ix4 0 k c j)

/-- A row of a parameter as a function of the channel. -/
def rrow (v : Vec Ideal S1x1024 .f32) : Fin 1024 → EReal := fun j => v (ix2 0 j)

variable (a : FVec Ideal S24x40x1024 .f32) (sc : Vec Ideal S1x24x2x1024 .fp8e4m3) (ss : Vec Ideal S1x24x2x8 .f32)
  (w : Vec Ideal S1x3x1024x1024 .fp8e4m3) (ws bb : Vec Ideal S1x1024 .f32)

theorem Cd_at (b : Fin 24) (s : Fin 40) (c : Fin 1024) : Cd a (ix3 b s c) = code (act a) b s c := code_at a b s c

theorem Sc_at (b : Fin 24) (s : Fin 40) (j : Fin 8) : Sc a (ix3 b s j) = scale (act a) b s j := scale_at a b s j

/-- The codes with the carried rows before them. -/
theorem codes_at (b : Fin 24) (r : Fin 42) (c : Fin 1024) : k0_pay8 (Cd a) sc (ix3 b r c) = codes (act a) (rsc sc) b r c := by
  rw [at8]
  unfold codes
  split
  · rfl
  · exact Cd_at a _ _ _

/-- The scales with the carried rows before them. -/
theorem scales_at (b : Fin 24) (r : Fin 42) (j : Fin 8) : k0_pay9 (Sc a) ss (ix3 b r j) = scales (act a) (rss ss) b r j := by
  rw [at9]
  unfold scales
  split
  · rfl
  · exact Sc_at a _ _ _

/-- The layer before its activation function is the specification's, -/
theorem Lin_at (b : Fin 24) (s : Fin 40) (j : Fin 1024) :
    Lin a sc ss w ws bb (ix3 b s j) = pre (act a) (rsc sc) (rss ss) (rw' w) (rrow ws) (rrow bb) b s j := by
  rw [Lin_split, atMm]
  unfold pre deq
  simp only [atPt, atDq, codes_at, scales_at]
  rfl

/-- and so is the layer. -/
theorem L_at (b : Fin 24) (s : Fin 40) (j : Fin 1024) :
    L a sc ss w ws bb (ix3 b s j) = next (act a) (rsc sc) (rss ss) (rw' w) (rrow ws) (rrow bb) b s j := by
  rw [L_split, atEl, ← Lin_split, Lin_at]
  rfl

theorem Co_at (z : Fin 1) (b : Fin 24) (s : Fin 40) (c : Fin 1024) : Co a (ix4 z b s c) = code (act a) b s c := by
  rw [← Cd_at]
  pointwise [Co, k0_pay11]

theorem So_at (z : Fin 1) (b : Fin 24) (s : Fin 40) (j : Fin 8) : So a (ix4 z b s j) = scale (act a) b s j := by
  rw [← Sc_at]
  pointwise [So, k0_pay12]

theorem at13 (v : FVec Ideal S24x42x1024 .fp8e4m3) (z : Fin 1) (b : Fin 24) (s : Fin 2) (c : Fin 1024) :
    k0_pay13 v (ix4 z b s c) = v (ix3 b ⟨40 + s.val, by omega⟩ c) := by
  pointwise [k0_pay13]

theorem at14 (v : FVec Ideal S24x42x8 .f32) (z : Fin 1) (b : Fin 24) (s : Fin 2) (j : Fin 8) :
    k0_pay14 v (ix4 z b s j) = v (ix3 b ⟨40 + s.val, by omega⟩ j) := by
  pointwise [k0_pay14]

theorem Cn_at (z : Fin 1) (b : Fin 24) (s : Fin 2) (c : Fin 1024) : Cn a sc (ix4 z b s c) = ncode (act a) b s c := by
  unfold Cn
  rw [at13, codes_at]
  unfold codes ncode
  rw [dif_neg (by change ¬ 40 + s.val < 2; omega)]
  refine congrArg (fun r : Fin 40 => code (act a) b r c) (Fin.ext ?_)
  change 40 + s.val - 2 = 38 + s.val
  omega

theorem Sn_at (z : Fin 1) (b : Fin 24) (s : Fin 2) (j : Fin 8) : Sn a ss (ix4 z b s j) = nscale (act a) b s j := by
  unfold Sn
  rw [at14, scales_at]
  unfold scales nscale
  rw [dif_neg (by change ¬ 40 + s.val < 2; omega)]
  refine congrArg (fun r : Fin 40 => scale (act a) b r j) (Fin.ext ?_)
  change 40 + s.val - 2 = 38 + s.val
  omega

end Cert.ReferenceIdeal.Value
end
-- ==== Proof.RI.Result.lean ====
module

public import proofs.«01_k».proof.Proof.RI.Layer
public import proofs.«01_k».proof.Proof.Math.Net
public import Idealize.ShloMosaic.Lib.Pipeline.ValueKit

/-!
The reference's five result arrays are the network's, of its argument arrays.
-/

@[expose] public section

set_option maxRecDepth 16384

noncomputable section

namespace Cert.ReferenceIdeal.Value

open Cert.ReferenceIdeal Cert.ReferenceIdeal.Gen
open Idealize.ShloMosaic Idealize.ShloMosaic.TcCoe
open Idealize.SL Idealize.SL.RA
open Cert.Math (code scale ncode nscale)

/-! ## The values the body leaves, of the argument arrays -/

section Body

variable (x0 : Vec Ideal S24x40x1024 .bf16) (x1 : Vec Ideal S5x24x2x1024 .fp8e4m3) (x2 : Vec Ideal S5x24x2x8 .f32)
  (x3 : Vec Ideal S5x3x1024x1024 .fp8e4m3) (x4 x5 : Vec Ideal S5x1024 .f32)

/-- The argument arrays together. -/
def argsOf : Cert.Math.Args := ⟨x0, x1, x2, x3, x4, x5⟩

theorem ld_sc (l : Fin 5) (inb) : rsc (View.ld x1 (Rect.unit (s := S5x24x2x1024) ![l.val, 0, 0, 0] S1x24x2x1024.size inb)) =
    (argsOf x0 x1 x2 x3 x4 x5).lsc l := by
  funext b s c
  exact View.ld_unit_apply_of x1 _ _ inb (ix4 0 b s c) (ix4 l b s c) fun a => by fin_cases a <;> simp [ix4]

theorem ld_ss (l : Fin 5) (inb) : rss (View.ld x2 (Rect.unit (s := S5x24x2x8) ![l.val, 0, 0, 0] S1x24x2x8.size inb)) =
    (argsOf x0 x1 x2 x3 x4 x5).lss l := by
  funext b s c
  exact View.ld_unit_apply_of x2 _ _ inb (ix4 0 b s c) (ix4 l b s c) fun a => by fin_cases a <;> simp [ix4]

theorem ld_w (l : Fin 5) (inb) : rw' (View.ld x3 (Rect.unit (s := S5x3x1024x1024) ![l.val, 0, 0, 0] S1x3x1024x1024.size inb)) =
    (argsOf x0 x1 x2 x3 x4 x5).lw l := by
  funext b s c
  exact View.ld_unit_apply_of x3 _ _ inb (ix4 0 b s c) (ix4 l b s c) fun a => by fin_cases a <;> simp [ix4]

theorem ld_ws (l : Fin 5) (inb) : rrow (View.ld x4 (Rect.unit (s := S5x1024) ![l.val, 0] S1x1024.size inb)) =
    (argsOf x0 x1 x2 x3 x4 x5).lws l := by
  funext j
  exact View.ld_unit_apply_of x4 _ _ inb (ix2 0 j) (ix2 l j) fun a => by fin_cases a <;> simp [ix2]

theorem ld_bb (l : Fin 5) (inb) : rrow (View.ld x5 (Rect.unit (s := S5x1024) ![l.val, 0] S1x1024.size inb)) =
    (argsOf x0 x1 x2 x3 x4 x5).lbb l := by
  funext j
  exact View.ld_unit_apply_of x5 _ _ inb (ix2 0 j) (ix2 l j) fun a => by fin_cases a <;> simp [ix2]

/-- A layer of the slices numbered `l` is the network's layer `l`. -/
theorem layer_eq (l : Fin 5) (a : FVec Ideal S24x40x1024 .f32) (i1 i2 i3 i4) :
    act (L a (View.ld x1 (Rect.unit (s := S5x24x2x1024) ![l.val, 0, 0, 0] S1x24x2x1024.size i1))
      (View.ld x2 (Rect.unit (s := S5x24x2x8) ![l.val, 0, 0, 0] S1x24x2x8.size i2))
      (View.ld x3 (Rect.unit (s := S5x3x1024x1024) ![l.val, 0, 0, 0] S1x3x1024x1024.size i3))
      (View.ld x4 (Rect.unit (s := S5x1024) ![l.val, 0] S1x1024.size i4))
      (View.ld x5 (Rect.unit (s := S5x1024) ![l.val, 0] S1x1024.size i4))) =
    (argsOf x0 x1 x2 x3 x4 x5).layer l (act a) := by
  funext b s j
  refine (L_at _ _ _ _ _ _ b s j).trans ?_
  rw [ld_sc x0 x1 x2 x3 x4 x5, ld_ss x0 x1 x2 x3 x4 x5, ld_w x0 x1 x2 x3 x4 x5, ld_ws x0 x1 x2 x3 x4 x5, ld_bb x0 x1 x2 x3 x4 x5]
  rfl

/-- The same before the activation function. -/
theorem lin_eq (l : Fin 5) (a : FVec Ideal S24x40x1024 .f32) (i1 i2 i3 i4) :
    act (Lin a (View.ld x1 (Rect.unit (s := S5x24x2x1024) ![l.val, 0, 0, 0] S1x24x2x1024.size i1))
      (View.ld x2 (Rect.unit (s := S5x24x2x8) ![l.val, 0, 0, 0] S1x24x2x8.size i2))
      (View.ld x3 (Rect.unit (s := S5x3x1024x1024) ![l.val, 0, 0, 0] S1x3x1024x1024.size i3))
      (View.ld x4 (Rect.unit (s := S5x1024) ![l.val, 0] S1x1024.size i4))
      (View.ld x5 (Rect.unit (s := S5x1024) ![l.val, 0] S1x1024.size i4))) =
    (argsOf x0 x1 x2 x3 x4 x5).lin l (act a) := by
  funext b s j
  refine (Lin_at _ _ _ _ _ _ b s j).trans ?_
  rw [ld_sc x0 x1 x2 x3 x4 x5, ld_ss x0 x1 x2 x3 x4 x5, ld_w x0 x1 x2 x3 x4 x5, ld_ws x0 x1 x2 x3 x4 x5, ld_bb x0 x1 x2 x3 x4 x5]
  rfl

theorem ld_whole (b : Fin 24) (s : Fin 40) (c : Fin 1024) : View.ld x0 r0_0 (ix3 b s c) = x0 (ix3 b s c) :=
  View.ld_unit_apply_of x0 _ _ _ (ix3 b s c) (ix3 b s c) fun a => by fin_cases a <;> simp [ix3]

theorem act0 : act (A0 x0 x1 x2 x3 x4 x5) = (argsOf x0 x1 x2 x3 x4 x5).acts 0 := by
  funext b s c
  exact ld_whole x0 b s c

theorem act1 : act (A1 x0 x1 x2 x3 x4 x5) = (argsOf x0 x1 x2 x3 x4 x5).acts 1 := by
  rw [Cert.Math.Args.acts_succ _ 0 (by decide), ← act0]
  exact layer_eq x0 x1 x2 x3 x4 x5 0 _ _ _ _ _

theorem act2 : act (A2 x0 x1 x2 x3 x4 x5) = (argsOf x0 x1 x2 x3 x4 x5).acts 2 := by
  rw [Cert.Math.Args.acts_succ _ 1 (by decide), ← act1]
  exact layer_eq x0 x1 x2 x3 x4 x5 1 _ _ _ _ _

theorem act3 : act (A3 x0 x1 x2 x3 x4 x5) = (argsOf x0 x1 x2 x3 x4 x5).acts 3 := by
  rw [Cert.Math.Args.acts_succ _ 2 (by decide), ← act2]
  exact layer_eq x0 x1 x2 x3 x4 x5 2 _ _ _ _ _

theorem act4 : act (A4 x0 x1 x2 x3 x4 x5) = (argsOf x0 x1 x2 x3 x4 x5).acts 4 := by
  rw [Cert.Math.Args.acts_succ _ 3 (by decide), ← act3]
  exact layer_eq x0 x1 x2 x3 x4 x5 3 _ _ _ _ _

theorem pay3_at (v : FVec Ideal S24x40x1024 .f32) (b : Fin 24) (s : Fin 40) (c : Fin 1024) :
    k0_pay3 v (ix3 b s c) = v (ix3 b s c) := by
  pointwise [k0_pay3]

theorem val6 (y : S24x40x1024.Idx) : out0_6 x0 x1 x2 x3 x4 x5 y = (argsOf x0 x1 x2 x3 x4 x5).res6 y := by
  obtain ⟨b, s, c, rfl⟩ : ∃ (b : Fin 24) (s : Fin 40) (c : Fin 1024), y = ix3 b s c := ⟨y 0, y 1, y 2, eq_ix3 y⟩
  rw [out6]
  canon_tiles x h using cover0_6 ..
  have e : x = ix3 b s c := by
    funext a
    fin_cases a
    · exact Fin.ext h0.symm
    · exact Fin.ext h1.symm
    · exact Fin.ext h2.symm
  rw [e, pay3_at, Cert.Math.Args.res6_at, ← act4]
  exact congrFun (congrFun (congrFun (lin_eq x0 x1 x2 x3 x4 x5 4 _ _ _ _ _) b) s) c

theorem val7 (y : S5x24x40x1024.Idx) : out0_7 x0 x1 x2 x3 x4 x5 y = (argsOf x0 x1 x2 x3 x4 x5).res7 y := by
  obtain ⟨l, b, s, c, rfl⟩ : ∃ (l : Fin 5) (b : Fin 24) (s : Fin 40) (c : Fin 1024), y = ix4 l b s c := ⟨y 0, y 1, y 2, y 3, eq_ix4 y⟩
  rw [out7, Cert.Math.Args.res7_at]
  have e (x : S1x24x40x1024.Idx) (h1 : b.val = (x 1).val) (h2 : s.val = (x 2).val) (h3 : c.val = (x 3).val) :
      ∃ z : Fin 1, x = ix4 z b s c := by
    refine ⟨x 0, ?_⟩
    funext a
    fin_cases a
    · rfl
    · exact Fin.ext h1.symm
    · exact Fin.ext h2.symm
    · exact Fin.ext h3.symm
  canon_tiles x h using cover0_7 ..
  all_goals
    obtain ⟨z, hz⟩ := e x h1 h2 h3
    have x0_lt : (x 0).val < 1 := x0_lt
  · have hl : l.val = 4 := by
      change l.val = 4 + (x 0).val at h0
      omega
    rw [hz, Co_at, act4, hl]
  · have hl : l.val = 3 := by
      change l.val = 3 + (x 0).val at h0
      omega
    rw [hz, Co_at, act3, hl]
  · have hl : l.val = 2 := by
      change l.val = 2 + (x 0).val at h0
      omega
    rw [hz, Co_at, act2, hl]
  · have hl : l.val = 1 := by
      change l.val = 1 + (x 0).val at h0
      omega
    rw [hz, Co_at, act1, hl]
  · have hl : l.val = 0 := by
      change l.val = (x 0).val at h0
      omega
    rw [hz, Co_at, act0, hl]

theorem val8 (y : S5x24x40x8.Idx) : out0_8 x0 x1 x2 x3 x4 x5 y = (argsOf x0 x1 x2 x3 x4 x5).res8 y := by
  obtain ⟨l, b, s, c, rfl⟩ : ∃ (l : Fin 5) (b : Fin 24) (s : Fin 40) (c : Fin 8), y = ix4 l b s c := ⟨y 0, y 1, y 2, y 3, eq_ix4 y⟩
  rw [out8, Cert.Math.Args.res8_at]
  have e (x : S1x24x40x8.Idx) (h1 : b.val = (x 1).val) (h2 : s.val = (x 2).val) (h3 : c.val = (x 3).val) :
      ∃ z : Fin 1, x = ix4 z b s c := by
    refine ⟨x 0, ?_⟩
    funext a
    fin_cases a
    · rfl
    · exact Fin.ext h1.symm
    · exact Fin.ext h2.symm
    · exact Fin.ext h3.symm
  canon_tiles x h using cover0_8 ..
  all_goals
    obtain ⟨z, hz⟩ := e x h1 h2 h3
    have x0_lt : (x 0).val < 1 := x0_lt
  · have hl : l.val = 4 := by
      change l.val = 4 + (x 0).val at h0
      omega
    rw [hz, So_at, act4, hl]
  · have hl : l.val = 3 := by
      change l.val = 3 + (x 0).val at h0
      omega
    rw [hz, So_at, act3, hl]
  · have hl : l.val = 2 := by
      change l.val = 2 + (x 0).val at h0
      omega
    rw [hz, So_at, act2, hl]
  · have hl : l.val = 1 := by
      change l.val = 1 + (x 0).val at h0
      omega
    rw [hz, So_at, act1, hl]
  · have hl : l.val = 0 := by
      change l.val = (x 0).val at h0
      omega
    rw [hz, So_at, act0, hl]

theorem val9 (y : S5x24x2x1024.Idx) : out0_9 x0 x1 x2 x3 x4 x5 y = (argsOf x0 x1 x2 x3 x4 x5).res9 y := by
  obtain ⟨l, b, s, c, rfl⟩ : ∃ (l : Fin 5) (b : Fin 24) (s : Fin 2) (c : Fin 1024), y = ix4 l b s c := ⟨y 0, y 1, y 2, y 3, eq_ix4 y⟩
  rw [out9, Cert.Math.Args.res9_at]
  have e (x : S1x24x2x1024.Idx) (h1 : b.val = (x 1).val) (h2 : s.val = (x 2).val) (h3 : c.val = (x 3).val) :
      ∃ z : Fin 1, x = ix4 z b s c := by
    refine ⟨x 0, ?_⟩
    funext a
    fin_cases a
    · rfl
    · exact Fin.ext h1.symm
    · exact Fin.ext h2.symm
    · exact Fin.ext h3.symm
  canon_tiles x h using cover0_9 ..
  all_goals
    obtain ⟨z, hz⟩ := e x h1 h2 h3
    have x0_lt : (x 0).val < 1 := x0_lt
  · have hl : l.val = 4 := by
      change l.val = 4 + (x 0).val at h0
      omega
    rw [hz, Cn_at, act4, hl]
  · have hl : l.val = 3 := by
      change l.val = 3 + (x 0).val at h0
      omega
    rw [hz, Cn_at, act3, hl]
  · have hl : l.val = 2 := by
      change l.val = 2 + (x 0).val at h0
      omega
    rw [hz, Cn_at, act2, hl]
  · have hl : l.val = 1 := by
      change l.val = 1 + (x 0).val at h0
      omega
    rw [hz, Cn_at, act1, hl]
  · have hl : l.val = 0 := by
      change l.val = (x 0).val at h0
      omega
    rw [hz, Cn_at, act0, hl]

theorem val10 (y : S5x24x2x8.Idx) : out0_10 x0 x1 x2 x3 x4 x5 y = (argsOf x0 x1 x2 x3 x4 x5).res10 y := by
  obtain ⟨l, b, s, c, rfl⟩ : ∃ (l : Fin 5) (b : Fin 24) (s : Fin 2) (c : Fin 8), y = ix4 l b s c := ⟨y 0, y 1, y 2, y 3, eq_ix4 y⟩
  rw [out10, Cert.Math.Args.res10_at]
  have e (x : S1x24x2x8.Idx) (h1 : b.val = (x 1).val) (h2 : s.val = (x 2).val) (h3 : c.val = (x 3).val) :
      ∃ z : Fin 1, x = ix4 z b s c := by
    refine ⟨x 0, ?_⟩
    funext a
    fin_cases a
    · rfl
    · exact Fin.ext h1.symm
    · exact Fin.ext h2.symm
    · exact Fin.ext h3.symm
  canon_tiles x h using cover0_10 ..
  all_goals
    obtain ⟨z, hz⟩ := e x h1 h2 h3
    have x0_lt : (x 0).val < 1 := x0_lt
  · have hl : l.val = 4 := by
      change l.val = 4 + (x 0).val at h0
      omega
    rw [hz, Sn_at, act4, hl]
  · have hl : l.val = 3 := by
      change l.val = 3 + (x 0).val at h0
      omega
    rw [hz, Sn_at, act3, hl]
  · have hl : l.val = 2 := by
      change l.val = 2 + (x 0).val at h0
      omega
    rw [hz, Sn_at, act2, hl]
  · have hl : l.val = 1 := by
      change l.val = 1 + (x 0).val at h0
      omega
    rw [hz, Sn_at, act1, hl]
  · have hl : l.val = 0 := by
      change l.val = (x 0).val at h0
      omega
    rw [hz, Sn_at, act0, hl]

end Body

/-! ## The result arrays -/

variable (m : (ℓ : Loc nD τ sig) → Buf (Elt Ideal) ℓ)

/-- The argument arrays of core `c`. -/
def args (c : Dev nD) : Cert.Math.Args where
  x := m ((c : Thread nD τ).loc main_arg0)
  sc := m ((c : Thread nD τ).loc main_arg1)
  ss := m ((c : Thread nD τ).loc main_arg2)
  w := m ((c : Thread nD τ).loc main_arg3)
  ws := m ((c : Thread nD τ).loc main_arg4)
  bb := m ((c : Thread nD τ).loc main_arg5)

theorem wi0 : ∀ t : Fin cfg0.N, win0_0.index t = ![0, 0, 0] := (by decide +kernel : ∀ t : Fin grid0.N, win0_0.index t = ![0, 0, 0])

theorem in0 (c : Dev nD) (t : Fin cfg0.N) : (iblk m c 0 t : Vec Ideal S24x40x1024 .bf16) = (args m c).x := by
  funext y
  unfold args
  blk_ext! [iblk, V, wi0 t]

theorem wi1 : ∀ t : Fin cfg0.N, win0_1.index t = ![0, 0, 0, 0] := (by decide +kernel : ∀ t : Fin grid0.N, win0_1.index t = ![0, 0, 0, 0])

theorem in1 (c : Dev nD) (t : Fin cfg0.N) : (iblk m c 1 t : Vec Ideal S5x24x2x1024 .fp8e4m3) = (args m c).sc := by
  funext y
  unfold args
  blk_ext! [iblk, V, wi1 t]

theorem wi2 : ∀ t : Fin cfg0.N, win0_2.index t = ![0, 0, 0, 0] := (by decide +kernel : ∀ t : Fin grid0.N, win0_2.index t = ![0, 0, 0, 0])

theorem in2 (c : Dev nD) (t : Fin cfg0.N) : (iblk m c 2 t : Vec Ideal S5x24x2x8 .f32) = (args m c).ss := by
  funext y
  unfold args
  blk_ext! [iblk, V, wi2 t]

theorem wi3 : ∀ t : Fin cfg0.N, win0_3.index t = ![0, 0, 0, 0] := (by decide +kernel : ∀ t : Fin grid0.N, win0_3.index t = ![0, 0, 0, 0])

theorem in3 (c : Dev nD) (t : Fin cfg0.N) : (iblk m c 3 t : Vec Ideal S5x3x1024x1024 .fp8e4m3) = (args m c).w := by
  funext y
  unfold args
  blk_ext! [iblk, V, wi3 t]

theorem wi4 : ∀ t : Fin cfg0.N, win0_4.index t = ![0, 0] := (by decide +kernel : ∀ t : Fin grid0.N, win0_4.index t = ![0, 0])

theorem in4 (c : Dev nD) (t : Fin cfg0.N) : (iblk m c 4 t : Vec Ideal S5x1024 .f32) = (args m c).ws := by
  funext y
  unfold args
  blk_ext! [iblk, V, wi4 t]

theorem wi5 : ∀ t : Fin cfg0.N, win0_5.index t = ![0, 0] := (by decide +kernel : ∀ t : Fin grid0.N, win0_5.index t = ![0, 0])

theorem in5 (c : Dev nD) (t : Fin cfg0.N) : (iblk m c 5 t : Vec Ideal S5x1024 .f32) = (args m c).bb := by
  funext y
  unfold args
  blk_ext! [iblk, V, wi5 t]

theorem wi6 : ∀ t : Fin cfg0.N, win0_6.index t = ![0, 0, 0] := (by decide +kernel : ∀ t : Fin grid0.N, win0_6.index t = ![0, 0, 0])

theorem blk6 (c : Dev nD) (t : Fin cfg0.N) (y : S24x40x1024.Idx) :
    out0_6 (iblk m c 0 t) (iblk m c 1 t) (iblk m c 2 t) (iblk m c 3 t) (iblk m c 4 t) (iblk m c 5 t) y = (args m c).res6 y := by
  refine (val6 _ _ _ _ _ _ y).trans ?_
  rw [in0, in1, in2, in3, in4, in5]
  rfl

theorem arr6 (c : Dev nD) : (dats m 0 c).arrAt 6 cfg0.N = (args m c).res6 := by
  refine (dats m 0 c).arrAt_eq_of_covers 6 _ (by decide +kernel) fun t hf y => ?_
  blk_simp
  rw [after0_6]
  change Shape.Idx S24x40x1024 at y
  have e : (win0_6.blk t).view.emb y = y := by blk_ext [wi6 t]
  rw [e]
  exact blk6 m c t y

theorem wi7 : ∀ t : Fin cfg0.N, win0_7.index t = ![0, 0, 0, 0] := (by decide +kernel : ∀ t : Fin grid0.N, win0_7.index t = ![0, 0, 0, 0])

theorem blk7 (c : Dev nD) (t : Fin cfg0.N) (y : S5x24x40x1024.Idx) :
    out0_7 (iblk m c 0 t) (iblk m c 1 t) (iblk m c 2 t) (iblk m c 3 t) (iblk m c 4 t) (iblk m c 5 t) y = (args m c).res7 y := by
  refine (val7 _ _ _ _ _ _ y).trans ?_
  rw [in0, in1, in2, in3, in4, in5]
  rfl

theorem arr7 (c : Dev nD) : (dats m 0 c).arrAt 7 cfg0.N = (args m c).res7 := by
  refine (dats m 0 c).arrAt_eq_of_covers 7 _ (by decide +kernel) fun t hf y => ?_
  blk_simp
  rw [after0_7]
  change Shape.Idx S5x24x40x1024 at y
  have e : (win0_7.blk t).view.emb y = y := by blk_ext [wi7 t]
  rw [e]
  exact blk7 m c t y

theorem wi8 : ∀ t : Fin cfg0.N, win0_8.index t = ![0, 0, 0, 0] := (by decide +kernel : ∀ t : Fin grid0.N, win0_8.index t = ![0, 0, 0, 0])

theorem blk8 (c : Dev nD) (t : Fin cfg0.N) (y : S5x24x40x8.Idx) :
    out0_8 (iblk m c 0 t) (iblk m c 1 t) (iblk m c 2 t) (iblk m c 3 t) (iblk m c 4 t) (iblk m c 5 t) y = (args m c).res8 y := by
  refine (val8 _ _ _ _ _ _ y).trans ?_
  rw [in0, in1, in2, in3, in4, in5]
  rfl

theorem arr8 (c : Dev nD) : (dats m 0 c).arrAt 8 cfg0.N = (args m c).res8 := by
  refine (dats m 0 c).arrAt_eq_of_covers 8 _ (by decide +kernel) fun t hf y => ?_
  blk_simp
  rw [after0_8]
  change Shape.Idx S5x24x40x8 at y
  have e : (win0_8.blk t).view.emb y = y := by blk_ext [wi8 t]
  rw [e]
  exact blk8 m c t y

theorem wi9 : ∀ t : Fin cfg0.N, win0_9.index t = ![0, 0, 0, 0] := (by decide +kernel : ∀ t : Fin grid0.N, win0_9.index t = ![0, 0, 0, 0])

theorem blk9 (c : Dev nD) (t : Fin cfg0.N) (y : S5x24x2x1024.Idx) :
    out0_9 (iblk m c 0 t) (iblk m c 1 t) (iblk m c 2 t) (iblk m c 3 t) (iblk m c 4 t) (iblk m c 5 t) y = (args m c).res9 y := by
  refine (val9 _ _ _ _ _ _ y).trans ?_
  rw [in0, in1, in2, in3, in4, in5]
  rfl

theorem arr9 (c : Dev nD) : (dats m 0 c).arrAt 9 cfg0.N = (args m c).res9 := by
  refine (dats m 0 c).arrAt_eq_of_covers 9 _ (by decide +kernel) fun t hf y => ?_
  blk_simp
  rw [after0_9]
  change Shape.Idx S5x24x2x1024 at y
  have e : (win0_9.blk t).view.emb y = y := by blk_ext [wi9 t]
  rw [e]
  exact blk9 m c t y

theorem wi10 : ∀ t : Fin cfg0.N, win0_10.index t = ![0, 0, 0, 0] := (by decide +kernel : ∀ t : Fin grid0.N, win0_10.index t = ![0, 0, 0, 0])

theorem blk10 (c : Dev nD) (t : Fin cfg0.N) (y : S5x24x2x8.Idx) :
    out0_10 (iblk m c 0 t) (iblk m c 1 t) (iblk m c 2 t) (iblk m c 3 t) (iblk m c 4 t) (iblk m c 5 t) y = (args m c).res10 y := by
  refine (val10 _ _ _ _ _ _ y).trans ?_
  rw [in0, in1, in2, in3, in4, in5]
  rfl

theorem arr10 (c : Dev nD) : (dats m 0 c).arrAt 10 cfg0.N = (args m c).res10 := by
  refine (dats m 0 c).arrAt_eq_of_covers 10 _ (by decide +kernel) fun t hf y => ?_
  blk_simp
  rw [after0_10]
  change Shape.Idx S5x24x2x8 at y
  have e : (win0_10.blk t).view.emb y = y := by blk_ext [wi10 t]
  rw [e]
  exact blk10 m c t y

end Cert.ReferenceIdeal.Value
end
-- ==== Proof.Final.Algebraic.lean ====
module

public import proofs.«01_k».proof.Defs
public import proofs.«01_k».proof.Proof.Gen.KernelIdeal
public import proofs.«01_k».proof.Proof.Gen.ReferenceIdeal
public import proofs.«01_k».proof.Proof.PI.Result
public import proofs.«01_k».proof.Proof.RI.Result
public import Idealize.ShloMosaic.Lib.Claim

/-!
The idealized kernel and the idealized reference end with equal results: each ends with the network's result arrays of its own
arguments, and the arguments agree.
-/

@[expose] public section

set_option maxRecDepth 16384

noncomputable section

namespace Cert.KernelIdeal.Value

open Cert.KernelIdeal Cert.KernelIdeal.Gen
open Idealize.ShloMosaic Idealize.ShloMosaic.TcCoe Idealize.SL.Sem

/-- The idealized kernel's run: the results are the network's, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (args m c).res6
      ∧ r.2.mem ((c.tc : Thread nD τ).loc main_v0_1) = (args m c).res7
      ∧ r.2.mem ((c.tc : Thread nD τ).loc main_v0_2) = (args m c).res8
      ∧ r.2.mem ((c.tc : Thread nD τ).loc main_v0_3) = (args m c).res9
      ∧ r.2.mem ((c.tc : Thread nD τ).loc main_v0_4) = (args m c).res10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨((h c).1 6).trans (arr6 m c), ((h c).1 7).trans (arr7 m c), ((h c).1 8).trans (arr8 m c),
    ((h c).1 9).trans (arr9 m c), ((h c).1 10).trans (arr10 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _),
    ((h c).1 5).trans ((dats m 0 c).arrAt_in 5 rfl _)⟩) (run_main m g)

end Cert.KernelIdeal.Value

namespace Cert.ReferenceIdeal.Value

open Cert.ReferenceIdeal Cert.ReferenceIdeal.Gen
open Idealize.ShloMosaic Idealize.ShloMosaic.TcCoe Idealize.SL.Sem

/-- The idealized reference's run: the results are the network's, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = (args m c).res6
      ∧ r.2.mem ((c.tc : Thread nD τ).loc main_v0_1) = (args m c).res7
      ∧ r.2.mem ((c.tc : Thread nD τ).loc main_v0_2) = (args m c).res8
      ∧ r.2.mem ((c.tc : Thread nD τ).loc main_v0_3) = (args m c).res9
      ∧ r.2.mem ((c.tc : Thread nD τ).loc main_v0_4) = (args m c).res10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨((h c).1 6).trans (arr6 m c), ((h c).1 7).trans (arr7 m c), ((h c).1 8).trans (arr8 m c),
    ((h c).1 9).trans (arr9 m c), ((h c).1 10).trans (arr10 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _),
    ((h c).1 5).trans ((dats m 0 c).arrAt_in 5 rfl _)⟩) (run_main m g)

end Cert.ReferenceIdeal.Value

namespace Cert.Final

open Idealize.ShloMosaic Idealize.SL.Sem

/-- Equal argument arrays, the same network. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.args m' c = Cert.KernelIdeal.Value.args m c := by
  obtain ⟨h0, h1, h2, h3, h4, h5⟩ := h
  unfold Cert.ReferenceIdeal.Value.args Cert.KernelIdeal.Value.args
  rw [Cert.Math.Args.mk.injEq]
  exact ⟨h0, h1, h2, h3, h4, h5⟩

/-- The value claim. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Value.args m c).res6, fun c => (Cert.KernelIdeal.Value.args m c).res7,
    fun c => (Cert.KernelIdeal.Value.args m c).res8, fun c => (Cert.KernelIdeal.Value.args m c).res9,
    fun c => (Cert.KernelIdeal.Value.args m c).res10, Cert.KernelIdeal.Value.run m g, ?_⟩
  refine (θ_run (Cert.ReferenceIdeal.defs (F := Ideal)) _ _).mono (fun r h c => ?_) (Cert.ReferenceIdeal.Value.run m' g')
  have e := args_eq m m' c (hagree c)
  obtain ⟨h6, h7, h8, h9, h10, h⟩ := h c
  exact ⟨h6.trans (congrArg Cert.Math.Args.res6 e), h7.trans (congrArg Cert.Math.Args.res7 e), h8.trans (congrArg Cert.Math.Args.res8 e),
    h9.trans (congrArg Cert.Math.Args.res9 e), h10.trans (congrArg Cert.Math.Args.res10 e), h⟩

end Cert.Final
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.P.Frame
public import proofs.«01_k».proof.Proof.PI.Frame
public import proofs.«01_k».proof.Proof.Final.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    fun m ρ _ => Cert.Kernel.Frame.frame m ρ, fun m ρ _ => Cert.KernelIdeal.Frame.frame m ρ,
    fun m ρ _ => Cert.ReferenceIdeal.Gen.frame m ρ, trivial, Cert.Final.algebraic⟩

end Cert.Proof

end
